-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_even_grid [hPre_even_grid : Cert.Pre_even_grid.Facts] (m : (ℓ : Loc Cert.KernelIdeal.nD Cert.KernelIdeal.τ Cert.KernelIdeal.sig) → Buf (Elt Ideal) ℓ) : Prop :=
  ∀ c : Dev Cert.KernelIdeal.nD,
    (Cert.Pre_even_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even_grid [hPre_even_grid : Cert.Pre_even_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_even_grid [hKernelIdeal : Cert.KernelIdeal.Facts] [hPre_even_grid : Cert.Pre_even_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_even_grid [hReferenceIdeal : Cert.ReferenceIdeal.Facts] [hPre_even_grid : Cert.Pre_even_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_even_grid [hKernelIdeal : Cert.KernelIdeal.Facts] [hReferenceIdeal : Cert.ReferenceIdeal.Facts] [hPre_even_grid : Cert.Pre_even_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_cst) = v2 c
          ∧ r.2.mem ((c.tc : Thread Cert.ReferenceIdeal.nD Cert.ReferenceIdeal.τ).loc Cert.ReferenceIdeal.main_cst_7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_even_grid : Cert.Pre_even_grid.Facts),
    quiescent_Kernel (hKernel := hKernel)
    ∧ quiescent_KernelIdeal (hKernelIdeal := hKernelIdeal)
    ∧ quiescent_KernelIdeal_pre_even_grid (hKernelIdeal := hKernelIdeal) (hPre_even_grid := hPre_even_grid)
    ∧ quiescent_ReferenceIdeal (hReferenceIdeal := hReferenceIdeal)
    ∧ quiescent_ReferenceIdeal_pre_even_grid (hReferenceIdeal := hReferenceIdeal) (hPre_even_grid := hPre_even_grid)
    ∧ preserves_Kernel_KernelIdeal
    ∧ algebraic_KernelIdeal_ReferenceIdeal_pre_even_grid (hKernelIdeal := hKernelIdeal) (hReferenceIdeal := hReferenceIdeal) (hPre_even_grid := hPre_even_grid)
-- ==== Pre_even_grid.lean ====
abbrev S65536x256 : Shape := ⟨2, ![65536, 256]⟩
abbrev S5x256 : Shape := ⟨2, ![5, 256]⟩
abbrev S5 : Shape := ⟨1, ![5]⟩
abbrev S256x5 : Shape := ⟨2, ![256, 5]⟩
abbrev S256 : Shape := ⟨1, ![256]⟩
abbrev S5x8 : Shape := ⟨2, ![5, 8]⟩
abbrev S1x1 : Shape := ⟨2, ![1, 1]⟩
abbrev S_ : Shape := ⟨0, ![]⟩
abbrev S65536x5 : Shape := ⟨2, ![65536, 5]⟩
abbrev S1x5 : Shape := ⟨2, ![1, 5]⟩
abbrev S65536x5x1 : Shape := ⟨3, ![65536, 5, 1]⟩
abbrev S1x5x8 : Shape := ⟨3, ![1, 5, 8]⟩
abbrev S65536x5x8 : Shape := ⟨3, ![65536, 5, 8]⟩
abbrev S65536x5x3 : Shape := ⟨3, ![65536, 5, 3]⟩

class Facts : Prop where
  slices_S5x8_S1x1_0_0 : S5x8.Slices ![0, 0] S1x1
  shapeCasts_S1x1_S_ : S1x1.ShapeCasts S_
  slices_S5x8_S1x1_0_1 : S5x8.Slices ![0, 1] S1x1
  bcast_S_S5x8 : S_.BroadcastsInDim S5x8 (![] : Fin 0 → Fin S5x8.rank)
  reducesTo_S5x8_S_d0_1 : S5x8.ReducesTo [0, 1] S_
  h_S_ : 0 < S_.numel
  transposes_S5x256_S256x5_1_0 : S5x256.Transposes [1, 0] S256x5
  bcast_S5_S1x5_1 : S5.BroadcastsInDim S1x5 (![1] : Fin 1 → Fin S1x5.rank)
  bcast_S1x5_S65536x5_0_1 : S1x5.BroadcastsInDim S65536x5 (![0, 1] : Fin 2 → Fin S65536x5.rank)
  bcast_S65536x5_S65536x5x1_0_1 : S65536x5.BroadcastsInDim S65536x5x1 (![0, 1] : Fin 2 → Fin S65536x5x1.rank)
  bcast_S5x8_S1x5x8_1_2 : S5x8.BroadcastsInDim S1x5x8 (![1, 2] : Fin 2 → Fin S1x5x8.rank)
  bcast_S65536x5x1_S65536x5x8_0_1_2 : S65536x5x1.BroadcastsInDim S65536x5x8 (![0, 1, 2] : Fin 3 → Fin S65536x5x8.rank)
  bcast_S1x5x8_S65536x5x8_0_1_2 : S1x5x8.BroadcastsInDim S65536x5x8 (![0, 1, 2] : Fin 3 → Fin S65536x5x8.rank)
  slicesBy_S65536x5x8_S65536x5x3_0s1_0s1_1s2 : S65536x5x8.SlicesBy (![0, 0, 1] : Fin 3 → Nat) ![1, 1, 2] S65536x5x3
  slicesBy_S65536x5x8_S65536x5x3_0s1_0s1_2s2 : S65536x5x8.SlicesBy (![0, 0, 2] : Fin 3 → Nat) ![1, 1, 2] S65536x5x3
  reducesTo_S65536x5x3_S_d0_1_2 : S65536x5x3.ReducesTo [0, 1, 2] S_
  dot_S65536x256_S256x5_S65536x5_1_0_0_1_n_n_wf : DotDims.WF S65536x256 S256x5 S65536x5 [1] [0] [0] [1] [] []

variable [Facts]

def dot_S65536x256_S256x5_S65536x5_1_0_0_1_n_n : DotDims S65536x256 S256x5 S65536x5 where
  lhsContracting := [1]
  rhsContracting := [0]
  lhsNonContracting := [0]
  rhsNonContracting := [1]
  lhsBatch := []
  rhsBatch := []
  wf := dot_S65536x256_S256x5_S65536x5_1_0_0_1_n_n_wf
def fn_part1 {F : FTy → Type} [FloatOps F] (main_arg0 : FVec F S65536x256 .f32) (main_arg1 : FVec F S5x256 .f32) (main_arg2 : FVec F S5 .f32) (main_arg5 : FVec F S5x8 .f32) (main_v12 : IVec S_ 1) (main_v15 : IVec S_ 1) (main_v18 : IVec S_ 1) : IVec S_ 1 :=
  let main_v19 : IVec S_ 1 := andi main_v15 main_v18
  let main_v20 : FVec F S256x5 .f32 := (transpose S256x5 [1, 0] · transposes_S5x256_S256x5_1_0) main_arg1
  let main_v21 : FVec F S65536x5 .f32 := (fun l r => Host.dotGeneral dot_S65536x256_S256x5_S65536x5_1_0_0_1_n_n none l r) main_arg0 main_v20
  let main_v22 : FVec F S1x5 .f32 := broadcastInDim S1x5 ![1] bcast_S5_S1x5_1 main_arg2
  let main_v23 : FVec F S65536x5 .f32 := broadcastInDim S65536x5 ![0, 1] bcast_S1x5_S65536x5_0_1 main_v22
  let main_v24 : FVec F S65536x5 .f32 := addf main_v21 main_v23
  let main_v25 : FVec F S65536x5 .f32 := Host.tanh main_v24
  let main_v26 : FVec F S65536x5x1 .f32 := broadcastInDim S65536x5x1 ![0, 1] bcast_S65536x5_S65536x5x1_0_1 main_v25
  let main_v27 : FVec F S1x5x8 .f32 := broadcastInDim S1x5x8 ![1, 2] bcast_S5x8_S1x5x8_1_2 main_arg5
  let main_v28 : FVec F S65536x5x8 .f32 := broadcastInDim S65536x5x8 ![0, 1, 2] bcast_S65536x5x1_S65536x5x8_0_1_2 main_v26
  let main_v29 : FVec F S65536x5x8 .f32 := broadcastInDim S65536x5x8 ![0, 1, 2] bcast_S1x5x8_S65536x5x8_0_1_2 main_v27
  let main_v30 : FVec F S65536x5x8 .f32 := subf main_v28 main_v29
  let main_v31 : FVec F S65536x5x8 .f32 := Host.absf main_v30
  let main_v32 : FVec F S65536x5x3 .f32 := (Host.slice S65536x5x3 ![0, 0, 1] ![1, 1, 2] · slicesBy_S65536x5x8_S65536x5x3_0s1_0s1_1s2) main_v31
  let main_v33 : FVec F S65536x5x3 .f32 := (Host.slice S65536x5x3 ![0, 0, 2] ![1, 1, 2] · slicesBy_S65536x5x8_S65536x5x3_0s1_0s1_2s2) main_v31
  let main_v34 : IVec S65536x5x3 1 := cmpf .une main_v32 main_v33
  let main_c_3 : IVec S_ 1 := constantI S_ 1 1#1
  let main_v35 : IVec S_ 1 := (fun x v => Host.reduce IntOp.andi x v reducesTo_S65536x5x3_S_d0_1_2 h_S_) main_v34 main_c_3
  let main_v36 : IVec S_ 1 := andi main_v12 main_v19
  let main_v37 : IVec S_ 1 := andi main_v36 main_v35
  main_v37

def fn {F : FTy → Type} [FloatOps F] (main_arg0 : FVec F S65536x256 .f32) (main_arg1 : FVec F S5x256 .f32) (main_arg2 : FVec F S5 .f32) (main_arg3 : FVec F S256x5 .f32) (main_arg4 : FVec F S256 .f32) (main_arg5 : FVec F S5x8 .f32) : IVec S_ 1 :=
  let main_v0 : FVec F S1x1 .f32 := (extractStridedSlice S1x1 ![0, 0] · slices_S5x8_S1x1_0_0) main_arg5
  let main_v1 : FVec F S_ .f32 := shapeCast S_ main_v0 shapeCasts_S1x1_S_
  let main_v2 : FVec F S1x1 .f32 := (extractStridedSlice S1x1 ![0, 1] · slices_S5x8_S1x1_0_1) main_arg5
  let main_v3 : FVec F S_ .f32 := shapeCast S_ main_v2 shapeCasts_S1x1_S_
  let main_v4 : FVec F S_ .f32 := subf main_v3 main_v1
  let main_v5 : IVec S5x8 32 := iotaInDim S5x8 32 1
  let main_v6 : FVec F S5x8 .f32 := sitofp .f32 main_v5
  let main_v7 : FVec F S5x8 .f32 := broadcastInDim S5x8 ![] bcast_S_S5x8 main_v4
  let main_v8 : FVec F S5x8 .f32 := mulf main_v6 main_v7
  let main_v9 : FVec F S5x8 .f32 := broadcastInDim S5x8 ![] bcast_S_S5x8 main_v1
  let main_v10 : FVec F S5x8 .f32 := addf main_v9 main_v8
  let main_v11 : IVec S5x8 1 := cmpf .oeq main_arg5 main_v10
  let main_c : IVec S_ 1 := constantI S_ 1 1#1
  let main_v12 : IVec S_ 1 := (fun x v => Host.reduce IntOp.andi x v reducesTo_S5x8_S_d0_1 h_S_) main_v11 main_c
  let main_cst : FVec F S_ .f32 := constant S_ .f32 0x3F000000#32
  let main_v13 : FVec F S_ .f32 := mulf main_cst main_v4
  let main_v14 : FVec F S_ .f32 := subf main_v1 main_v13
  let main_cst_0 : FVec F S_ .f32 := constant S_ .f32 0xBF800000#32
  let main_v15 : IVec S_ 1 := cmpf .ole main_v14 main_cst_0
  let main_cst_1 : FVec F S_ .f32 := constant S_ .f32 0x40F00000#32
  let main_v16 : FVec F S_ .f32 := mulf main_cst_1 main_v4
  let main_v17 : FVec F S_ .f32 := addf main_v1 main_v16
  let main_cst_2 : FVec F S_ .f32 := constant S_ .f32 0x3F800000#32
  let main_v18 : IVec S_ 1 := cmpf .ogt main_v17 main_cst_2
  fn_part1 (F := F) main_arg0 main_arg1 main_arg2 main_arg5 main_v12 main_v15 main_v18
-- ==== Kernel.lean ====
abbrev S65536x256 : Shape := ⟨2, ![65536, 256]⟩
abbrev S5x256 : Shape := ⟨2, ![5, 256]⟩
abbrev S5 : Shape := ⟨1, ![5]⟩
abbrev S256x5 : Shape := ⟨2, ![256, 5]⟩
abbrev S256 : Shape := ⟨1, ![256]⟩
abbrev S5x8 : Shape := ⟨2, ![5, 8]⟩
abbrev S1x5 : Shape := ⟨2, ![1, 5]⟩
abbrev S1x256 : Shape := ⟨2, ![1, 256]⟩
abbrev S65536x1 : Shape := ⟨2, ![65536, 1]⟩
abbrev S65536 : Shape := ⟨1, ![65536]⟩
abbrev S_ : Shape := ⟨0, ![]⟩
abbrev S8192x256 : Shape := ⟨2, ![8192, 256]⟩
abbrev S8192x1 : Shape := ⟨2, ![8192, 1]⟩
abbrev S8192x5 : Shape := ⟨2, ![8192, 5]⟩
abbrev S1x1 : Shape := ⟨2, ![1, 1]⟩
abbrev S8192 : Shape := ⟨1, ![8192]⟩

abbrev nBuf : Space → Nat
  | .hbm => 13
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S5x256, .f32⟩
  | .hbm, ⟨2, _⟩ => ⟨S5, .f32⟩
  | .hbm, ⟨3, _⟩ => ⟨S256x5, .f32⟩
  | .hbm, ⟨4, _⟩ => ⟨S256, .f32⟩
  | .hbm, ⟨5, _⟩ => ⟨S5x8, .f32⟩
  | .hbm, ⟨6, _⟩ => ⟨S1x5, .f32⟩
  | .hbm, ⟨7, _⟩ => ⟨S1x256, .f32⟩
  | .hbm, ⟨8, _⟩ => ⟨S65536x256, .f32⟩
  | .hbm, ⟨9, _⟩ => ⟨S65536x1, .i32⟩
  | .hbm, ⟨10, _⟩ => ⟨S65536, .i32⟩
  | .hbm, ⟨11, _⟩ => ⟨S_, .f32⟩
  | .hbm, ⟨12, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S5x256, .f32⟩
  | .local _ .vmem, ⟨3, _⟩ => ⟨S1x5, .f32⟩
  | .local _ .vmem, ⟨4, _⟩ => ⟨S256x5, .f32⟩
  | .local _ .vmem, ⟨5, _⟩ => ⟨S1x256, .f32⟩
  | .local _ .vmem, ⟨6, _⟩ => ⟨S5x8, .f32⟩
  | .local _ .vmem, ⟨7, _⟩ => ⟨S8192x256, .f32⟩
  | .local _ .vmem, ⟨8, _⟩ => ⟨S8192x256, .f32⟩
  | .local _ .vmem, ⟨9, _⟩ => ⟨S8192x1, .i32⟩
  | .local _ .vmem, ⟨10, _⟩ => ⟨S8192x1, .i32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0_0 : Ref sig .tc := ⟨.hbm, 8, rfl⟩
abbrev main_call0_v2_1 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S65536x256 : Shape := ⟨2, ![65536, 256]⟩
abbrev S5x256 : Shape := ⟨2, ![5, 256]⟩
abbrev S5 : Shape := ⟨1, ![5]⟩
abbrev S256x5 : Shape := ⟨2, ![256, 5]⟩
abbrev S256 : Shape := ⟨1, ![256]⟩
abbrev S5x8 : Shape := ⟨2, ![5, 8]⟩
abbrev S65536x5 : Shape := ⟨2, ![65536, 5]⟩
abbrev S1x5 : Shape := ⟨2, ![1, 5]⟩
abbrev S65536x5x1 : Shape := ⟨3, ![65536, 5, 1]⟩
abbrev S1x5x8 : Shape := ⟨3, ![1, 5, 8]⟩
abbrev S65536x5x8 : Shape := ⟨3, ![65536, 5, 8]⟩
abbrev S_ : Shape := ⟨0, ![]⟩
abbrev S65536x5x2 : Shape := ⟨3, ![65536, 5, 2]⟩
abbrev S65536x1 : Shape := ⟨2, ![65536, 1]⟩
abbrev S65536 : Shape := ⟨1, ![65536]⟩
abbrev S1x256 : Shape := ⟨2, ![1, 256]⟩

abbrev nBuf : Space → Nat
  | .hbm => 77
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S5x256, .f32⟩
  | .hbm, ⟨2, _⟩ => ⟨S5, .f32⟩
  | .hbm, ⟨3, _⟩ => ⟨S256x5, .f32⟩
  | .hbm, ⟨4, _⟩ => ⟨S256, .f32⟩
  | .hbm, ⟨5, _⟩ => ⟨S5x8, .f32⟩
  | .hbm, ⟨6, _⟩ => ⟨S256x5, .f32⟩
  | .hbm, ⟨7, _⟩ => ⟨S65536x5, .f32⟩
  | .hbm, ⟨8, _⟩ => ⟨S1x5, .f32⟩
  | .hbm, ⟨9, _⟩ => ⟨S65536x5, .f32⟩
  | .hbm, ⟨10, _⟩ => ⟨S65536x5, .f32⟩
  | .hbm, ⟨11, _⟩ => ⟨S65536x5, .f32⟩
  | .hbm, ⟨12, _⟩ => ⟨S65536x5x1, .f32⟩
  | .hbm, ⟨13, _⟩ => ⟨S1x5x8, .f32⟩
  | .hbm, ⟨14, _⟩ => ⟨S65536x5x8, .f32⟩
  | .hbm, ⟨15, _⟩ => ⟨S65536x5x8, .f32⟩
  | .hbm, ⟨16, _⟩ => ⟨S65536x5x8, .f32⟩
  | .hbm, ⟨17, _⟩ => ⟨S65536x5x8, .f32⟩
  | .hbm, ⟨18, _⟩ => ⟨S65536x5x8, .i32⟩
  | .hbm, ⟨19, _⟩ => ⟨S_, .f32⟩
  | .hbm, ⟨20, _⟩ => ⟨S_, .i32⟩
  | .hbm, ⟨21, _⟩ => ⟨S65536x5, .f32⟩
  | .hbm, ⟨22, _⟩ => ⟨S65536x5, .i32⟩
  | .hbm, ⟨23, _⟩ => ⟨S5, .i32⟩
  | .hbm, ⟨24, _⟩ => ⟨S1x5, .i32⟩
  | .hbm, ⟨25, _⟩ => ⟨S_, .i32⟩
  | .hbm, ⟨26, _⟩ => ⟨S1x5, .i32⟩
  | .hbm, ⟨27, _⟩ => ⟨S1x5, .i1⟩
  | .hbm, ⟨28, _⟩ => ⟨S_, .i32⟩
  | .hbm, ⟨29, _⟩ => ⟨S1x5, .i32⟩
  | .hbm, ⟨30, _⟩ => ⟨S1x5, .i32⟩
  | .hbm, ⟨31, _⟩ => ⟨S1x5, .i32⟩
  | .hbm, ⟨32, _⟩ => ⟨S_, .i32⟩
  | .hbm, ⟨33, _⟩ => ⟨S65536x5, .i32⟩
  | .hbm, ⟨34, _⟩ => ⟨S65536x5, .i1⟩
  | .hbm, ⟨35, _⟩ => ⟨S_, .i32⟩
  | .hbm, ⟨36, _⟩ => ⟨S65536x5, .i32⟩
  | .hbm, ⟨37, _⟩ => ⟨S65536x5, .i32⟩
  | .hbm, ⟨38, _⟩ => ⟨S65536x5, .i32⟩
  | .hbm, ⟨39, _⟩ => ⟨S65536x5, .i32⟩
  | .hbm, ⟨40, _⟩ => ⟨S65536x5x1, .i32⟩
  | .hbm, ⟨41, _⟩ => ⟨S65536x5x1, .i32⟩
  | .hbm, ⟨42, _⟩ => ⟨S65536x5x2, .i32⟩
  | .hbm, ⟨43, _⟩ => ⟨S65536x5, .f32⟩
  | .hbm, ⟨44, _⟩ => ⟨S65536x1, .i32⟩
  | .hbm, ⟨45, _⟩ => ⟨S65536, .i32⟩
  | .hbm, ⟨46, _⟩ => ⟨S65536x1, .i32⟩
  | .hbm, ⟨47, _⟩ => ⟨S65536, .i32⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S65536, .i32⟩
  | .hbm, ⟨54, _⟩ => ⟨S_, .i32⟩
  | .hbm, ⟨55, _⟩ => ⟨S65536, .i32⟩
  | .hbm, ⟨56, _⟩ => ⟨S65536, .i32⟩
  | .hbm, ⟨57, _⟩ => ⟨S65536, .i32⟩
  | .hbm, ⟨58, _⟩ => ⟨S65536x1, .i32⟩
  | .hbm, ⟨59, _⟩ => ⟨S65536, .i32⟩
  | .hbm, ⟨60, _⟩ => ⟨S_, .i32⟩
  | .hbm, ⟨61, _⟩ => ⟨S65536, .i32⟩
  | .hbm, ⟨62, _⟩ => ⟨S65536, .i32⟩
  | .hbm, ⟨63, _⟩ => ⟨S65536, .i32⟩
  | .hbm, ⟨64, _⟩ => ⟨S65536x1, .i32⟩
  | .hbm, ⟨65, _⟩ => ⟨S65536, .i32⟩
  | .hbm, ⟨66, _⟩ => ⟨S_, .i32⟩
  | .hbm, ⟨67, _⟩ => ⟨S65536, .i32⟩
  | .hbm, ⟨68, _⟩ => ⟨S65536, .i32⟩
  | .hbm, ⟨69, _⟩ => ⟨S65536, .i32⟩
  | .hbm, ⟨70, _⟩ => ⟨S5x256, .f32⟩
  | .hbm, ⟨71, _⟩ => ⟨S65536x256, .f32⟩
  | .hbm, ⟨72, _⟩ => ⟨S1x256, .f32⟩
  | .hbm, ⟨73, _⟩ => ⟨S65536x256, .f32⟩
  | .hbm, ⟨74, _⟩ => ⟨S65536x256, .f32⟩
  | .hbm, ⟨75, _⟩ => ⟨S_, .f32⟩
  | .hbm, ⟨76, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst : Ref sig .tc := ⟨.hbm, 75, rfl⟩
abbrev main_cst_7 : Ref sig .tc := ⟨.hbm, 76, rfl⟩

abbrev nD : Nat := 1
abbrev τ : Topo := Topo.v7x

variable {F : FTy → Type} [FloatOps F]
-- ==== Proof.KernelValue.lean ====
/- What the kernel's two result arrays hold: one block's values row by row, and the arrays the eight blocks fill. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.KernelValue

open Cert.KernelIdeal Cert.KernelIdeal.Gen
open Idealize.ShloMosaic Idealize.ShloMosaic.TcCoe Idealize.SL.Sem
open Idealize.ShloMosaic.Pipeline (Dat)

/-- One clamped value: the hyperbolic tangent of a row of `x` on a row of weights plus the bias. -/
def clampedAt (x w : Fin 256 → EReal) (b : EReal) : EReal := Ideal.tanh (∑ k, x k * w k + b)

/-- The position of a clamped value on the grid that starts at `b` and goes on at `b'`, rounded half to even. -/
def roundedAt (t b b' : EReal) : EReal := Ideal.liftRound Ideal.roundHalfEven ((t - b) * Ideal.div 1 (b' - b))

/-- A rounded position back on the grid. -/
def levelAt (t b b' : EReal) : EReal := roundedAt t b b' * (b' - b) + b

/-- The power of eight a dimension's digit is scaled by, as the kernel computes it. -/
def scaleAt (d : Fin 5) : EReal :=
  FloatOps.exp2 (F := Ideal) (Ideal.ofBits .f32 0x40400000#32 * FloatOps.sitofp (F := Ideal) .f32 (BitVec.ofNat 32 d))

variable (m : (ℓ : Loc nD τ sig) → Buf (Elt Ideal) ℓ) (c : Dev nD)

/-- The clamped value of a row and a dimension, from the launch contents. -/
def clamped (r : Fin 65536) (d : Fin 5) : EReal :=
  clampedAt (fun k => m ((c : Thread nD τ).loc main_arg0) (ix2 r k)) (fun k => m ((c : Thread nD τ).loc main_arg1) (ix2 d k))
    (m ((c : Thread nD τ).loc main_arg2) (ix1 d))

/-- The first two entries of the level table's first row. -/
def base : EReal := m ((c : Thread nD τ).loc main_arg5) (ix2 0 0)
def next : EReal := m ((c : Thread nD τ).loc main_arg5) (ix2 0 1)

/-- The projected array. -/
def outArr : S65536x256.Idx → EReal := fun i =>
  ∑ d, levelAt (clamped m c (i 0) d) (base m c) (next m c) * m ((c : Thread nD τ).loc main_arg3) (ix2 (i 1) d)
    + m ((c : Thread nD τ).loc main_arg4) (ix1 (i 1))

/-- The code of a row. -/
def codeAt (r : Fin 65536) : BitVec 32 :=
  Ideal.fptosi 32 (∑ d, roundedAt (clamped m c r d) (base m c) (next m c) * scaleAt d)

/-- The code array as the region leaves it, one column. -/
def codeArr : S65536x1.Idx → BitVec 32 := fun i => codeAt m c (i 0)

theorem index_row : ∀ t : Fin grid0.N, win0_0.index t = ![t.val, 0] ∧ win0_6.index t = ![t.val, 0] ∧ win0_7.index t = ![t.val, 0] := by
  decide +kernel
theorem index_whole : ∀ t : Fin grid0.N, win0_1.index t = ![0, 0] ∧ win0_2.index t = ![0, 0] ∧ win0_3.index t = ![0, 0]
    ∧ win0_4.index t = ![0, 0] ∧ win0_5.index t = ![0, 0] := by
  decide +kernel

/-- The bias vectors enter the region as one-row arrays. -/
theorem entry_bIn : V m c main_call0_v0
    = shapeCast S1x5 (m ((c : Thread nD τ).loc main_arg2)) shapeCasts_S5_S1x5 := by
  entry_read
  rfl
theorem entry_bOut : V m c main_call0_v1
    = shapeCast S1x256 (m ((c : Thread nD τ).loc main_arg4)) shapeCasts_S256_S1x256 := by
  entry_read
  rfl

/-- The input bias at a point of the grid. -/
theorem bIn_read (t : Fin grid0.N) (d : Fin 5) : V m c main_call0_v0 ((win0_2.blk t).view.emb (ix2 0 d))
    = m ((c : Thread nD τ).loc main_arg2) (ix1 d) := by
  have e : (win0_2.blk t).view.emb (ix2 0 d) = (ix2 0 d : S1x5.Idx) := by
    funext a; apply Fin.ext
    blk_simp [index_whole t]
    fin_cases a <;> simp
  rw [e, entry_bIn]
  pointwise

/-- The output bias at a point of the grid. -/
theorem bOut_read (t : Fin grid0.N) (k : Fin 256) : V m c main_call0_v1 ((win0_4.blk t).view.emb (ix2 0 k))
    = m ((c : Thread nD τ).loc main_arg4) (ix1 k) := by
  have e : (win0_4.blk t).view.emb (ix2 0 k) = (ix2 0 k : S1x256.Idx) := by
    funext a; apply Fin.ext
    blk_simp [index_whole t]
    fin_cases a <;> simp
  rw [e, entry_bOut]
  pointwise

/-- A block of the projected array keeps every column. -/
theorem out_column (t : Fin grid0.N) (y0 : Fin 8192) (y1 : Fin 256) :
    ((win0_6.blk t).view.emb (ix2 y0 y1) : S65536x256.Idx) 1 = y1 := by
  apply Fin.ext
  blk_simp [index_row t]

theorem final_out : (dats m 0 c).arrAt 6 (cfgs 0).N = outArr m c := by
  refine (dats m 0 c).arrAt_eq_of_covers 6 _ (by decide +kernel) fun t hf y => ?_
  blk_simp
  rw [after0_6]
  frame_out
  idx_vars y
  pointwise [k0_pay1, k0_pay5, k0_pay6, k0_pay3, k0_pay2, outArr, levelAt, roundedAt, clamped, clampedAt, base, next]
  blk_point [iblk, V, index_row t, index_whole t]
  · exact bIn_read m c t _
  · rw [out_column]; exact bOut_read m c t _

theorem final_codes : (dats m 0 c).arrAt 7 (cfgs 0).N = codeArr m c := by
  refine (dats m 0 c).arrAt_eq_of_covers 7 _ (by decide +kernel) fun t hf y => ?_
  blk_simp
  rw [after0_7]
  frame_out
  idx_vars y
  pointwise [k0_pay4, k0_pay3, k0_pay2, codeArr, codeAt, scaleAt, roundedAt, clamped, clampedAt, base, next]
  refine congrArg (Ideal.fptosi 32) ?_
  blk_point [iblk, V, index_row t, index_whole t]
  exact bIn_read m c t _

end Cert.Proof.KernelValue

end
-- ==== Proof.KernelRun.lean ====
/- What a run of the kernel leaves in its four result arrays. -/
module

public import proofs.«01_k».proof.Proof.KernelValue
public import Idealize.ShloMosaic.Lib.Claim

@[expose] public section

set_option maxRecDepth 16384

noncomputable section

namespace Cert.Proof.KernelRun

open Cert.KernelIdeal Cert.KernelIdeal.Gen Cert.Proof.KernelValue
open Idealize.ShloMosaic Idealize.ShloMosaic.TcCoe Idealize.SL.Sem

variable (m : (ℓ : Loc nD τ sig) → Buf (Elt Ideal) ℓ) (ρ : Dev nD → PrngReg) (c : Dev nD)

/-- The two code arrays: one column, then flat. -/
theorem tail_codes : Pipeline.afterTail₀ cfgs (dats m) 0 (V0 m) [hostOps1] c main_v0_1
    = shapeCast S65536 (codeArr m c) shapeCasts_S65536x1_S65536 := by
  have e := Pipeline.withArrays_arr (cfgs 0).spec (by decide +kernel) c (V0 m c) (fun w => (dats m 0 c).arrAt w (cfgs 0).N) 7
  rw [final_codes] at e
  have e' : (Pipeline.withArrays (cfgs 0).spec c (V0 m c) fun w => (dats m 0 c).arrAt w (cfgs 0).N) (Proc.tc.devRef main_call0_v2_1)
      = codeArr m c := e
  show StableHlo.after hostOps1 (Pipeline.withArrays (cfgs 0).spec c (V0 m c) fun w => (dats m 0 c).arrAt w (cfgs 0).N)
      (Proc.tc.devRef main_v0_1) = _
  generalize (Pipeline.withArrays (cfgs 0).spec c (V0 m c) fun w => (dats m 0 c).arrAt w (cfgs 0).N) = W at e' ⊢
  rw [← e']
  after_results
  rfl

theorem tail_loss0 : Pipeline.afterTail₀ cfgs (dats m) 0 (V0 m) [hostOps1] c main_v0_2 = constant (F := Ideal) S_ .f32 0x00000000#32 := by
  show StableHlo.after hostOps1 _ _ = _
  after_results
  rfl
theorem tail_loss1 : Pipeline.afterTail₀ cfgs (dats m) 0 (V0 m) [hostOps1] c main_v0_3 = constant (F := Ideal) S_ .f32 0x00000000#32 := by
  show StableHlo.after hostOps1 _ _ = _
  after_results
  rfl

/-- The kernel's run: the projected array, the flat codes, two zeros, and the arguments as they were. -/
theorem run : θ_run defs (onTc (τ := τ) (main (F := Ideal))) ⟨m, fun _ => 0, ρ⟩ (fun r => ∀ c : Dev nD,
      r.2.mem ((c.tc : Thread nD τ).loc main_v0_0) = outArr m c
      ∧ r.2.mem ((c.tc : Thread nD τ).loc main_v0_1) = shapeCast S65536 (codeArr m c) shapeCasts_S65536x1_S65536
      ∧ r.2.mem ((c.tc : Thread nD τ).loc main_v0_2) = constant (F := Ideal) S_ .f32 0x00000000#32
      ∧ r.2.mem ((c.tc : Thread nD τ).loc main_v0_3) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  obtain ⟨h, hu⟩ := h
  refine ⟨((h c).1 6).trans (final_out m c), ?_, ?_, ?_, hu c⟩
  · exact ((h c).2 main_v0_1 (Pipeline.mem_restRefs_of main_v0_1 (by decide) (by decide))).trans (tail_codes m c)
  · exact ((h c).2 main_v0_2 (Pipeline.mem_restRefs_of main_v0_2 (by decide) (by decide))).trans (tail_loss0 m c)
  · exact ((h c).2 main_v0_3 (Pipeline.mem_restRefs_of main_v0_3 (by decide) (by decide))).trans (tail_loss1 m c)

end Cert.Proof.KernelRun

end
-- ==== Proof.RefRun.lean ====
/- The run of the reference: its operations as four lines, what each line leaves in the array it is for, and the run's
   final contents. -/
module

public import proofs.«01_k».proof.Proof.Gen.ReferenceIdeal
public import Idealize.ShloMosaic.Lib.StableHlo.RunHlo
public import Idealize.ShloMosaic.Lib.StableHlo.RunRead
public import Idealize.ShloMosaic.Lib.Claim
public import Idealize.ShloMosaic.Lib.Quiescent

@[expose] public section

set_option maxRecDepth 16384

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- The operations up to the index of the nearest level (`%12`). -/
abbrev opsIndex : List (HloOp τ sig (Elt F)) :=
  [ unary main_arg1 main_v0 ((transpose S256x5 [1, 0] · transposes_S5x256_S256x5_1_0) : (⟨S5x256, .f32⟩ : BufTy).Contents (Elt F) → (⟨S256x5, .f32⟩ : BufTy).Contents (Elt F)),
    binary main_arg0 main_v0 main_v1 ((fun l r => Host.dotGeneral dot_S65536x256_S256x5_S65536x5_1_0_0_1_n_n none l r) : (⟨S65536x256, .f32⟩ : BufTy).Contents (Elt F) → (⟨S256x5, .f32⟩ : BufTy).Contents (Elt F) → (⟨S65536x5, .f32⟩ : BufTy).Contents (Elt F)),
    unary main_arg2 main_v2 (broadcastInDim S1x5 ![1] bcast_S5_S1x5_1 : (⟨S5, .f32⟩ : BufTy).Contents (Elt F) → (⟨S1x5, .f32⟩ : BufTy).Contents (Elt F)),
    unary main_v2 main_v3 (broadcastInDim S65536x5 ![0, 1] bcast_S1x5_S65536x5_0_1 : (⟨S1x5, .f32⟩ : BufTy).Contents (Elt F) → (⟨S65536x5, .f32⟩ : BufTy).Contents (Elt F)),
    binary main_v1 main_v3 main_v4 (addf : (⟨S65536x5, .f32⟩ : BufTy).Contents (Elt F) → (⟨S65536x5, .f32⟩ : BufTy).Contents (Elt F) → (⟨S65536x5, .f32⟩ : BufTy).Contents (Elt F)),
    unary main_v4 main_v5 (Host.tanh : (⟨S65536x5, .f32⟩ : BufTy).Contents (Elt F) → (⟨S65536x5, .f32⟩ : BufTy).Contents (Elt F)),
    unary main_v5 main_v6 (broadcastInDim S65536x5x1 ![0, 1] bcast_S65536x5_S65536x5x1_0_1 : (⟨S65536x5, .f32⟩ : BufTy).Contents (Elt F) → (⟨S65536x5x1, .f32⟩ : BufTy).Contents (Elt F)),
    unary main_arg5 main_v7 (broadcastInDim S1x5x8 ![1, 2] bcast_S5x8_S1x5x8_1_2 : (⟨S5x8, .f32⟩ : BufTy).Contents (Elt F) → (⟨S1x5x8, .f32⟩ : BufTy).Contents (Elt F)),
    unary main_v6 main_v8 (broadcastInDim S65536x5x8 ![0, 1, 2] bcast_S65536x5x1_S65536x5x8_0_1_2 : (⟨S65536x5x1, .f32⟩ : BufTy).Contents (Elt F) → (⟨S65536x5x8, .f32⟩ : BufTy).Contents (Elt F)),
    unary main_v7 main_v9 (broadcastInDim S65536x5x8 ![0, 1, 2] bcast_S1x5x8_S65536x5x8_0_1_2 : (⟨S1x5x8, .f32⟩ : BufTy).Contents (Elt F) → (⟨S65536x5x8, .f32⟩ : BufTy).Contents (Elt F)),
    binary main_v8 main_v9 main_v10 (subf : (⟨S65536x5x8, .f32⟩ : BufTy).Contents (Elt F) → (⟨S65536x5x8, .f32⟩ : BufTy).Contents (Elt F) → (⟨S65536x5x8, .f32⟩ : BufTy).Contents (Elt F)),
    unary main_v10 main_v11 (Host.absf : (⟨S65536x5x8, .f32⟩ : BufTy).Contents (Elt F) → (⟨S65536x5x8, .f32⟩ : BufTy).Contents (Elt F)),
    TRef.nullary main_call0.v0 (iotaInDim S65536x5x8 32 2),
    TRef.nullary main_call0.cst (constant S_ .f32 0x7F800000#32),
    TRef.nullary main_call0.c (constantI S_ 32 0#32),
    TRef.quaternary (.of main_v11) main_call0.v0 main_call0.cst main_call0.c main_call0.v1_0 (fun x y u v j => (Host.argReduce reducer_argmin_f32_i32 x y u v reducesTo_S65536x5x8_S65536x5_d2 h_S_ j).1),
    TRef.quaternary (.of main_v11) main_call0.v0 main_call0.cst main_call0.c main_call0.v1_1 (fun x y u v j => (Host.argReduce reducer_argmin_f32_i32 x y u v reducesTo_S65536x5x8_S65536x5_d2 h_S_ j).2) ]

/-- The operations of the lookup (`%13` … `%29`). -/
abbrev opsLookup : List (HloOp τ sig (Elt F)) :=
  [ nullary main_v13 (iotaInDim S5 32 0),
    unary main_v13 main_v14 (broadcastInDim S1x5 ![1] bcast_S5_S1x5_1 : (⟨S5, .i32⟩ : BufTy).Contents (Elt F) → (⟨S1x5, .i32⟩ : BufTy).Contents (Elt F)),
    nullary main_c (constantI S_ 32 0#32),
    unary main_c main_v15 (broadcastInDim S1x5 ![] bcast_S_S1x5 : (⟨S_, .i32⟩ : BufTy).Contents (Elt F) → (⟨S1x5, .i32⟩ : BufTy).Contents (Elt F)),
    binary main_v14 main_v15 main_v16 (cmpi .slt : (⟨S1x5, .i32⟩ : BufTy).Contents (Elt F) → (⟨S1x5, .i32⟩ : BufTy).Contents (Elt F) → (⟨S1x5, .i1⟩ : BufTy).Contents (Elt F)),
    nullary main_c_0 (constantI S_ 32 5#32),
    unary main_c_0 main_v17 (broadcastInDim S1x5 ![] bcast_S_S1x5 : (⟨S_, .i32⟩ : BufTy).Contents (Elt F) → (⟨S1x5, .i32⟩ : BufTy).Contents (Elt F)),
    binary main_v14 main_v17 main_v18 (addi : (⟨S1x5, .i32⟩ : BufTy).Contents (Elt F) → (⟨S1x5, .i32⟩ : BufTy).Contents (Elt F) → (⟨S1x5, .i32⟩ : BufTy).Contents (Elt F)),
    ternary main_v16 main_v18 main_v14 main_v19 (select : (⟨S1x5, .i1⟩ : BufTy).Contents (Elt F) → (⟨S1x5, .i32⟩ : BufTy).Contents (Elt F) → (⟨S1x5, .i32⟩ : BufTy).Contents (Elt F) → (⟨S1x5, .i32⟩ : BufTy).Contents (Elt F)),
    nullary main_c_1 (constantI S_ 32 0#32),
    unary main_c_1 main_v20 (broadcastInDim S65536x5 ![] bcast_S_S65536x5 : (⟨S_, .i32⟩ : BufTy).Contents (Elt F) → (⟨S65536x5, .i32⟩ : BufTy).Contents (Elt F)),
    binary main_v12 main_v20 main_v21 (cmpi .slt : (⟨S65536x5, .i32⟩ : BufTy).Contents (Elt F) → (⟨S65536x5, .i32⟩ : BufTy).Contents (Elt F) → (⟨S65536x5, .i1⟩ : BufTy).Contents (Elt F)),
    nullary main_c_2 (constantI S_ 32 8#32),
    unary main_c_2 main_v22 (broadcastInDim S65536x5 ![] bcast_S_S65536x5 : (⟨S_, .i32⟩ : BufTy).Contents (Elt F) → (⟨S65536x5, .i32⟩ : BufTy).Contents (Elt F)),
    binary main_v12 main_v22 main_v23 (addi : (⟨S65536x5, .i32⟩ : BufTy).Contents (Elt F) → (⟨S65536x5, .i32⟩ : BufTy).Contents (Elt F) → (⟨S65536x5, .i32⟩ : BufTy).Contents (Elt F)),
    ternary main_v21 main_v23 main_v12 main_v24 (select : (⟨S65536x5, .i1⟩ : BufTy).Contents (Elt F) → (⟨S65536x5, .i32⟩ : BufTy).Contents (Elt F) → (⟨S65536x5, .i32⟩ : BufTy).Contents (Elt F) → (⟨S65536x5, .i32⟩ : BufTy).Contents (Elt F)),
    unary main_v19 main_v25 (broadcastInDim S65536x5 ![0, 1] bcast_S1x5_S65536x5_0_1 : (⟨S1x5, .i32⟩ : BufTy).Contents (Elt F) → (⟨S65536x5, .i32⟩ : BufTy).Contents (Elt F)),
    unary main_v25 main_v26 (broadcastInDim S65536x5x1 ![0, 1] bcast_S65536x5_S65536x5x1_0_1 : (⟨S65536x5, .i32⟩ : BufTy).Contents (Elt F) → (⟨S65536x5x1, .i32⟩ : BufTy).Contents (Elt F)),
    unary main_v24 main_v27 (broadcastInDim S65536x5x1 ![0, 1] bcast_S65536x5_S65536x5x1_0_1 : (⟨S65536x5, .i32⟩ : BufTy).Contents (Elt F) → (⟨S65536x5x1, .i32⟩ : BufTy).Contents (Elt F)),
    binary main_v26 main_v27 main_v28 ((fun a b => concatenate S65536x5x2 2 [⟨S65536x5x1, a⟩, ⟨S65536x5x1, b⟩] concatenates_S65536x5x1_S65536x5x1_S65536x5x2_d2) : (⟨S65536x5x1, .i32⟩ : BufTy).Contents (Elt F) → (⟨S65536x5x1, .i32⟩ : BufTy).Contents (Elt F) → (⟨S65536x5x2, .i32⟩ : BufTy).Contents (Elt F)),
    binary main_arg5 main_v28 main_v29 ((fun x i => Host.gather gather_S5x8_S65536x5x2_S65536x5_n_01_n_n_01_2_11 x i) : (⟨S5x8, .f32⟩ : BufTy).Contents (Elt F) → (⟨S65536x5x2, .i32⟩ : BufTy).Contents (Elt F) → (⟨S65536x5, .f32⟩ : BufTy).Contents (Elt F)) ]

/-- The operations of the packed codes (`%30` … `%51`). -/
abbrev opsCodes : List (HloOp τ sig (Elt F)) :=
  [ unary main_v12 main_v30 ((extractStridedSlice S65536x1 ![0, 0] · slices_S65536x5_S65536x1_0_0) : (⟨S65536x5, .i32⟩ : BufTy).Contents (Elt F) → (⟨S65536x1, .i32⟩ : BufTy).Contents (Elt F)),
    reshape main_v30 main_v31 (rfl : (.i32 : EltTy) = .i32) shapeCasts_S65536x1_S65536,
    unary main_v12 main_v32 ((extractStridedSlice S65536x1 ![0, 1] · slices_S65536x5_S65536x1_0_1) : (⟨S65536x5, .i32⟩ : BufTy).Contents (Elt F) → (⟨S65536x1, .i32⟩ : BufTy).Contents (Elt F)),
    reshape main_v32 main_v33 (rfl : (.i32 : EltTy) = .i32) shapeCasts_S65536x1_S65536,
    nullary main_c_3 (constantI S_ 32 8#32),
    unary main_c_3 main_v34 (broadcastInDim S65536 ![] bcast_S_S65536 : (⟨S_, .i32⟩ : BufTy).Contents (Elt F) → (⟨S65536, .i32⟩ : BufTy).Contents (Elt F)),
    binary main_v33 main_v34 main_v35 (muli : (⟨S65536, .i32⟩ : BufTy).Contents (Elt F) → (⟨S65536, .i32⟩ : BufTy).Contents (Elt F) → (⟨S65536, .i32⟩ : BufTy).Contents (Elt F)),
    binary main_v31 main_v35 main_v36 (addi : (⟨S65536, .i32⟩ : BufTy).Contents (Elt F) → (⟨S65536, .i32⟩ : BufTy).Contents (Elt F) → (⟨S65536, .i32⟩ : BufTy).Contents (Elt F)),
    unary main_v12 main_v37 ((extractStridedSlice S65536x1 ![0, 2] · slices_S65536x5_S65536x1_0_2) : (⟨S65536x5, .i32⟩ : BufTy).Contents (Elt F) → (⟨S65536x1, .i32⟩ : BufTy).Contents (Elt F)),
    reshape main_v37 main_v38 (rfl : (.i32 : EltTy) = .i32) shapeCasts_S65536x1_S65536,
    nullary main_c_4 (constantI S_ 32 64#32),
    unary main_c_4 main_v39 (broadcastInDim S65536 ![] bcast_S_S65536 : (⟨S_, .i32⟩ : BufTy).Contents (Elt F) → (⟨S65536, .i32⟩ : BufTy).Contents (Elt F)),
    binary main_v38 main_v39 main_v40 (muli : (⟨S65536, .i32⟩ : BufTy).Contents (Elt F) → (⟨S65536, .i32⟩ : BufTy).Contents (Elt F) → (⟨S65536, .i32⟩ : BufTy).Contents (Elt F)),
    binary main_v36 main_v40 main_v41 (addi : (⟨S65536, .i32⟩ : BufTy).Contents (Elt F) → (⟨S65536, .i32⟩ : BufTy).Contents (Elt F) → (⟨S65536, .i32⟩ : BufTy).Contents (Elt F)),
    unary main_v12 main_v42 ((extractStridedSlice S65536x1 ![0, 3] · slices_S65536x5_S65536x1_0_3) : (⟨S65536x5, .i32⟩ : BufTy).Contents (Elt F) → (⟨S65536x1, .i32⟩ : BufTy).Contents (Elt F)),
    reshape main_v42 main_v43 (rfl : (.i32 : EltTy) = .i32) shapeCasts_S65536x1_S65536,
    nullary main_c_5 (constantI S_ 32 512#32),
    unary main_c_5 main_v44 (broadcastInDim S65536 ![] bcast_S_S65536 : (⟨S_, .i32⟩ : BufTy).Contents (Elt F) → (⟨S65536, .i32⟩ : BufTy).Contents (Elt F)),
    binary main_v43 main_v44 main_v45 (muli : (⟨S65536, .i32⟩ : BufTy).Contents (Elt F) → (⟨S65536, .i32⟩ : BufTy).Contents (Elt F) → (⟨S65536, .i32⟩ : BufTy).Contents (Elt F)),
    binary main_v41 main_v45 main_v46 (addi : (⟨S65536, .i32⟩ : BufTy).Contents (Elt F) → (⟨S65536, .i32⟩ : BufTy).Contents (Elt F) → (⟨S65536, .i32⟩ : BufTy).Contents (Elt F)),
    unary main_v12 main_v47 ((extractStridedSlice S65536x1 ![0, 4] · slices_S65536x5_S65536x1_0_4) : (⟨S65536x5, .i32⟩ : BufTy).Contents (Elt F) → (⟨S65536x1, .i32⟩ : BufTy).Contents (Elt F)),
    reshape main_v47 main_v48 (rfl : (.i32 : EltTy) = .i32) shapeCasts_S65536x1_S65536,
    nullary main_c_6 (constantI S_ 32 4096#32),
    unary main_c_6 main_v49 (broadcastInDim S65536 ![] bcast_S_S65536 : (⟨S_, .i32⟩ : BufTy).Contents (Elt F) → (⟨S65536, .i32⟩ : BufTy).Contents (Elt F)),
    binary main_v48 main_v49 main_v50 (muli : (⟨S65536, .i32⟩ : BufTy).Contents (Elt F) → (⟨S65536, .i32⟩ : BufTy).Contents (Elt F) → (⟨S65536, .i32⟩ : BufTy).Contents (Elt F)),
    binary main_v46 main_v50 main_v51 (addi : (⟨S65536, .i32⟩ : BufTy).Contents (Elt F) → (⟨S65536, .i32⟩ : BufTy).Contents (Elt F) → (⟨S65536, .i32⟩ : BufTy).Contents (Elt F)) ]

/-- The operations of the output projection and the two zero losses. -/
abbrev opsOut : List (HloOp τ sig (Elt F)) :=
  [ unary main_arg3 main_v52 ((transpose S5x256 [1, 0] · transposes_S256x5_S5x256_1_0) : (⟨S256x5, .f32⟩ : BufTy).Contents (Elt F) → (⟨S5x256, .f32⟩ : BufTy).Contents (Elt F)),
    binary main_v29 main_v52 main_v53 ((fun l r => Host.dotGeneral dot_S65536x5_S5x256_S65536x256_1_0_0_1_n_n none l r) : (⟨S65536x5, .f32⟩ : BufTy).Contents (Elt F) → (⟨S5x256, .f32⟩ : BufTy).Contents (Elt F) → (⟨S65536x256, .f32⟩ : BufTy).Contents (Elt F)),
    unary main_arg4 main_v54 (broadcastInDim S1x256 ![1] bcast_S256_S1x256_1 : (⟨S256, .f32⟩ : BufTy).Contents (Elt F) → (⟨S1x256, .f32⟩ : BufTy).Contents (Elt F)),
    unary main_v54 main_v55 (broadcastInDim S65536x256 ![0, 1] bcast_S1x256_S65536x256_0_1 : (⟨S1x256, .f32⟩ : BufTy).Contents (Elt F) → (⟨S65536x256, .f32⟩ : BufTy).Contents (Elt F)),
    binary main_v53 main_v55 main_v56 (addf : (⟨S65536x256, .f32⟩ : BufTy).Contents (Elt F) → (⟨S65536x256, .f32⟩ : BufTy).Contents (Elt F) → (⟨S65536x256, .f32⟩ : BufTy).Contents (Elt F)),
    nullary main_cst (constant S_ .f32 0x00000000#32),
    nullary main_cst_7 (constant S_ .f32 0x00000000#32) ]

/-! ## What each line leaves -/

/-- The arrays of the reference, by element. -/
abbrev Arr (F : FTy → Type) (s : Shape) : Type := s.Idx → F .f32
abbrev IntArr (s : Shape) : Type := s.Idx → BitVec 32

/-- The clamped projection: `tanh (x · W_inᵀ + b_in)`. -/
def clamped (x : Arr F S65536x256) (wIn : Arr F S5x256) (bIn : Arr F S5) : Arr F S65536x5 :=
  Host.tanh (addf
    (Host.dotGeneral dot_S65536x256_S256x5_S65536x5_1_0_0_1_n_n none x (transpose S256x5 [1, 0] wIn transposes_S5x256_S256x5_1_0))
    (broadcastInDim S65536x5 ![0, 1] bcast_S1x5_S65536x5_0_1 (broadcastInDim S1x5 ![1] bcast_S5_S1x5_1 bIn)))

/-- The distance of every clamped value to each of the eight levels. -/
def dist (xc : Arr F S65536x5) (levels : Arr F S5x8) : Arr F S65536x5x8 :=
  Host.absf (subf
    (broadcastInDim S65536x5x8 ![0, 1, 2] bcast_S65536x5x1_S65536x5x8_0_1_2 (broadcastInDim S65536x5x1 ![0, 1] bcast_S65536x5_S65536x5x1_0_1 xc))
    (broadcastInDim S65536x5x8 ![0, 1, 2] bcast_S1x5x8_S65536x5x8_0_1_2 (broadcastInDim S1x5x8 ![1, 2] bcast_S5x8_S1x5x8_1_2 levels)))

/-- The second array of an array of pairs. -/
def seconds {ι α β : Type} (p : ι → α × β) : ι → β := fun j => (p j).2

/-- The index of the nearest level. -/
def nearest (d : Arr F S65536x5x8) : IntArr S65536x5 :=
  seconds (Host.argReduce reducer_argmin_f32_i32 d (iotaInDim S65536x5x8 32 2) (constant S_ .f32 0x7F800000#32) (constantI S_ 32 0#32)
    reducesTo_S65536x5x8_S65536x5_d2 h_S_)

/-- A signed index counted from the end when negative: `i` if `0 ≤ i`, else `i + n`. -/
def fromEnd {s : Shape} (n : BitVec 32) (h : S_.BroadcastsInDim s (![] : Fin 0 → Fin s.rank)) (i : IntArr s) : IntArr s :=
  select (cmpi .slt i (broadcastInDim s ![] h (constantI S_ 32 0#32))) (addi i (broadcastInDim s ![] h (constantI S_ 32 n))) i

/-- The pairs (dimension, level) the lookup reads at. -/
def starts (idx : IntArr S65536x5) : IntArr S65536x5x2 :=
  concatenate S65536x5x2 2
    [⟨S65536x5x1, broadcastInDim S65536x5x1 ![0, 1] bcast_S65536x5_S65536x5x1_0_1 (broadcastInDim S65536x5 ![0, 1] bcast_S1x5_S65536x5_0_1
        (fromEnd 5#32 bcast_S_S1x5 (broadcastInDim S1x5 ![1] bcast_S5_S1x5_1 (iotaInDim S5 32 0))))⟩,
     ⟨S65536x5x1, broadcastInDim S65536x5x1 ![0, 1] bcast_S65536x5_S65536x5x1_0_1 (fromEnd 8#32 bcast_S_S65536x5 idx)⟩]
    concatenates_S65536x5x1_S65536x5x1_S65536x5x2_d2

/-- The level looked up for each index. -/
def lookup (idx : IntArr S65536x5) (levels : Arr F S5x8) : Arr F S65536x5 :=
  Host.gather gather_S5x8_S65536x5x2_S65536x5_n_01_n_n_01_2_11 levels (starts idx)

/-- One column of the indices. -/
def column (idx : IntArr S65536x5) (off : Fin 2 → Nat) (h : S65536x5.Slices off S65536x1) : IntArr S65536 :=
  shapeCast S65536 (extractStridedSlice S65536x1 off idx h) shapeCasts_S65536x1_S65536

/-- One column times a power of eight. -/
def digit (idx : IntArr S65536x5) (off : Fin 2 → Nat) (h : S65536x5.Slices off S65536x1) (w : BitVec 32) : IntArr S65536 :=
  muli (column idx off h) (broadcastInDim S65536 ![] bcast_S_S65536 (constantI S_ 32 w))

/-- The five indices of a row packed as the digits, base eight, of one word. -/
def pack (idx : IntArr S65536x5) : IntArr S65536 :=
  addi (addi (addi (addi (column idx ![0, 0] slices_S65536x5_S65536x1_0_0)
    (digit idx ![0, 1] slices_S65536x5_S65536x1_0_1 8#32))
    (digit idx ![0, 2] slices_S65536x5_S65536x1_0_2 64#32))
    (digit idx ![0, 3] slices_S65536x5_S65536x1_0_3 512#32))
    (digit idx ![0, 4] slices_S65536x5_S65536x1_0_4 4096#32)

/-- The output projection `q · W_outᵀ + b_out`. -/
def project (q : Arr F S65536x5) (wOut : Arr F S256x5) (bOut : Arr F S256) : Arr F S65536x256 :=
  addf
    (Host.dotGeneral dot_S65536x5_S5x256_S65536x256_1_0_0_1_n_n none q (transpose S5x256 [1, 0] wOut transposes_S256x5_S5x256_1_0))
    (broadcastInDim S65536x256 ![0, 1] bcast_S1x256_S65536x256_0_1 (broadcastInDim S1x256 ![1] bcast_S256_S1x256_1 bOut))

variable (V : Valuation τ sig (Elt F))

theorem index_eq : after opsIndex V (main_v12 : DevRef τ sig)
    = nearest (dist (clamped (V (main_arg0 : DevRef τ sig)) (V (main_arg1 : DevRef τ sig)) (V (main_arg2 : DevRef τ sig)))
        (V (main_arg5 : DevRef τ sig))) := by
  after_results
  rfl

theorem lookup_eq : after opsLookup V (main_v29 : DevRef τ sig)
    = lookup (V (main_v12 : DevRef τ sig)) (V (main_arg5 : DevRef τ sig)) := by
  after_results
  rfl

theorem codes_eq : after opsCodes V (main_v51 : DevRef τ sig) = pack (V (main_v12 : DevRef τ sig)) := by
  after_results
  rfl

theorem out_eq : after opsOut V (main_v56 : DevRef τ sig)
    = project (V (main_v29 : DevRef τ sig)) (V (main_arg3 : DevRef τ sig)) (V (main_arg4 : DevRef τ sig)) := by
  after_results
  rfl

/-! ## The whole program -/

/-- @main's operations, in order. -/
abbrev ops : List (HloOp τ sig (Elt F)) := opsIndex ++ (opsLookup ++ (opsCodes ++ opsOut))

/-- @main is that straight line. -/
theorem main_eq (c : Dev nD) : main (F := F) c = seq ops := rfl

/-- Two lines run one after the other. -/
theorem after_two (l k : List (HloOp τ sig (Elt F))) (V : Valuation τ sig (Elt F)) : after (l ++ k) V = after k (after l V) := by
  induction l generalizing V with
  | nil => rfl
  | cons op l ih => exact ih _

theorem final_arg0 : after ops V (main_arg0 : DevRef τ sig) = V (main_arg0 : DevRef τ sig) := by after_reads_simp
theorem final_arg1 : after ops V (main_arg1 : DevRef τ sig) = V (main_arg1 : DevRef τ sig) := by after_reads_simp
theorem final_arg2 : after ops V (main_arg2 : DevRef τ sig) = V (main_arg2 : DevRef τ sig) := by after_reads_simp
theorem final_arg3 : after ops V (main_arg3 : DevRef τ sig) = V (main_arg3 : DevRef τ sig) := by after_reads_simp
theorem final_arg4 : after ops V (main_arg4 : DevRef τ sig) = V (main_arg4 : DevRef τ sig) := by after_reads_simp
theorem final_arg5 : after ops V (main_arg5 : DevRef τ sig) = V (main_arg5 : DevRef τ sig) := by after_reads_simp

/-- The index array the reference computes from the arguments. -/
def index (x : Arr F S65536x256) (wIn : Arr F S5x256) (bIn : Arr F S5) (levels : Arr F S5x8) : IntArr S65536x5 :=
  nearest (dist (clamped x wIn bIn) levels)

theorem final_out : after ops V (main_v56 : DevRef τ sig)
    = project (lookup (index (V (main_arg0 : DevRef τ sig)) (V (main_arg1 : DevRef τ sig)) (V (main_arg2 : DevRef τ sig))
        (V (main_arg5 : DevRef τ sig))) (V (main_arg5 : DevRef τ sig))) (V (main_arg3 : DevRef τ sig)) (V (main_arg4 : DevRef τ sig)) := by
  have h12 := index_eq V
  have h29 := lookup_eq (after opsIndex V)
  rw [h12] at h29
  rw [ops, after_two, after_two, after_two, out_eq]
  have e29 : ∀ W : Valuation τ sig (Elt F), after opsCodes W (main_v29 : DevRef τ sig) = W (main_v29 : DevRef τ sig) := by
    intro W; after_reads_simp
  have e3 : after opsCodes (after opsLookup (after opsIndex V)) (main_arg3 : DevRef τ sig) = V (main_arg3 : DevRef τ sig) := by
    after_reads_simp
  have e4 : after opsCodes (after opsLookup (after opsIndex V)) (main_arg4 : DevRef τ sig) = V (main_arg4 : DevRef τ sig) := by
    after_reads_simp
  have e5 : after opsIndex V (main_arg5 : DevRef τ sig) = V (main_arg5 : DevRef τ sig) := by
    after_reads_simp
  rw [e29, h29, e3, e4, e5]
  rfl

theorem final_codes : after ops V (main_v51 : DevRef τ sig)
    = pack (index (V (main_arg0 : DevRef τ sig)) (V (main_arg1 : DevRef τ sig)) (V (main_arg2 : DevRef τ sig))
        (V (main_arg5 : DevRef τ sig))) := by
  have h12 := index_eq V
  have h51 := codes_eq (after opsLookup (after opsIndex V))
  have e12 : ∀ W : Valuation τ sig (Elt F), after opsLookup W (main_v12 : DevRef τ sig) = W (main_v12 : DevRef τ sig) := by
    intro W; after_reads_simp
  have e51 : ∀ W : Valuation τ sig (Elt F), after opsOut W (main_v51 : DevRef τ sig) = W (main_v51 : DevRef τ sig) := by
    intro W; after_reads_simp
  rw [ops, after_two, after_two, after_two, e51, h51, e12, h12]
  rfl

theorem final_loss0 : after ops V (main_cst : DevRef τ sig) = constant S_ .f32 0x00000000#32 := by
  after_reads_simp
theorem final_loss1 : after ops V (main_cst_7 : DevRef τ sig) = constant S_ .f32 0x00000000#32 := by
  after_reads_simp

theorem scoped_refs : (Finset.univ.filter fun b : Ref sig .tc => b.isScoped) = ∅ := by decide
theorem scoped_sems : (Finset.univ.filter fun sm : SemLoc sig => sm.isScoped .tc) = ∅ := by decide

/-- Every weakly fair execution of the reference terminates with every array at what the operations leave. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scoped_refs scoped_sems defs main (fun _ => ops) main_eq (fun _ => by simp) m ρ

/-- Its arguments end as they began. -/
theorem unchanged (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c _).trans (final_arg0 _), (h c _).trans (final_arg1 _), (h c _).trans (final_arg2 _),
    (h c _).trans (final_arg3 _), (h c _).trans (final_arg4 _), (h c _).trans (final_arg5 _)⟩) (run m ρ)

/-- The same, and every semaphore counter is at zero: the reference has none. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨h, sem_eq_zero_of_no_sems (by decide) r.2⟩) (unchanged m ρ)

end Cert.Proof.RefRun

end
-- ==== Proof.RefLookup.lean ====
/- The reference's table lookup and packed code, read at one entry. -/
module

public import proofs.«01_k».proof.Proof.RefRun
public import Idealize.ShloMosaic.Lib.Pointwise

@[expose] public section

set_option maxRecDepth 16384

noncomputable section

namespace Cert.Proof.RefLookup

open Cert.ReferenceIdeal Cert.ReferenceIdeal.Gen Cert.Proof.RefRun
open Idealize.ShloMosaic

/-- Component `l` of the pair a result entry is looked up at. -/
theorem pair_index (r : Fin 65536) (d : Fin 5) (l : Fin 2) :
    GatherDims.siIdx gather_S5x8_S65536x5x2_S65536x5_n_01_n_n_01_2_11 (ix2 r d) ⟨l.val, l.isLt⟩ = ix3 r d l := by
  funext b; refine Fin.ext ?_
  match b with
  | ⟨0, _⟩ => rfl
  | ⟨1, _⟩ => rfl
  | ⟨2, _⟩ => rfl

/-- An operand coordinate of the lookup: the pair's component, clamped into the axis. -/
theorem operand_coord (idx : IntArr S65536x5x2) (r : Fin 65536) (d : Fin 5) (l : Fin 2) :
    (GatherDims.operandIdx gather_S5x8_S65536x5x2_S65536x5_n_01_n_n_01_2_11 (ix2 r d) idx l).val = min (idx (ix3 r d l)).toInt.toNat (S5x8.size l - 1) := by
  show GatherDims.start gather_S5x8_S65536x5x2_S65536x5_n_01_n_n_01_2_11 (ix2 r d) idx l
    + GatherDims.batchCoord gather_S5x8_S65536x5x2_S65536x5_n_01_n_n_01_2_11 (ix2 r d) l
    + GatherDims.offCoord gather_S5x8_S65536x5x2_S65536x5_n_01_n_n_01_2_11 (ix2 r d) l = _
  have hm : l ∈ ([0, 1] : List (Fin 2)) := by fin_cases l <;> simp
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show l ∈ GatherDims.startIndexMap gather_S5x8_S65536x5x2_S65536x5_n_01_n_n_01_2_11 from hm), ← pair_index]
  fin_cases l <;> rfl

/-- A looked up level, at an index that is a level's number. -/
theorem lookup_apply (idx : IntArr S65536x5) (levels : Arr Ideal S5x8) (r : Fin 65536) (d : Fin 5) (k : Fin 8)
    (hk : idx (ix2 r d) = BitVec.ofNat 32 k) : lookup idx levels (ix2 r d) = levels (ix2 d k) := by
  unfold lookup Host.gather
  congr 1
  funext l
  refine Fin.ext ?_
  rw [operand_coord]
  unfold starts fromEnd
  pointwise
  rw [hk]
  fin_cases l
  · simp; fin_cases d <;> rfl
  · simp; fin_cases k <;> rfl

/-- The code of a row whose five indices are level numbers. -/
theorem pack_apply (idx : IntArr S65536x5) (r : Fin 65536) (k : Fin 5 → ℕ)
    (hk : ∀ d, idx (ix2 r d) = BitVec.ofNat 32 (k d)) :
    pack idx (ix1 r) = BitVec.ofNat 32 (k 0) + BitVec.ofNat 32 (k 1) * 8#32 + BitVec.ofNat 32 (k 2) * 64#32
      + BitVec.ofNat 32 (k 3) * 512#32 + BitVec.ofNat 32 (k 4) * 4096#32 := by
  unfold pack digit column
  pointwise
  simp only [hk]
  rfl

end Cert.Proof.RefLookup

end
-- ==== Proof.Quant.lean ====
/- The quantizer over the real numbers: on an even grid of eight levels, rounding the position half to even names the
   first of the nearest levels, once the three midpoints at which the two conventions part are left out. -/
module

public import Idealize.ShloMosaic.PureOps.Ideal
public import Idealize.ShloMosaic.PureOps.Ideal.Laws

@[expose] public section

noncomputable section

namespace Cert.Proof.Quant

open Idealize.ShloMosaic

/-! ## Rounding half to even -/

/-- The rounded value is within a half, and at a half it is even. -/
theorem round_close (y : ℝ) :
    |y - (Ideal.roundHalfEven y : ℝ)| ≤ 1 / 2 ∧ (|y - (Ideal.roundHalfEven y : ℝ)| = 1 / 2 → Even (Ideal.roundHalfEven y)) := by
  have h0 := Int.floor_le y
  have h1 := Int.lt_floor_add_one y
  unfold Ideal.roundHalfEven
  by_cases a : y - (⌊y⌋ : ℝ) < 1 / 2
  · simp only [a, if_true]
    rw [abs_of_nonneg (by linarith)]
    exact ⟨a.le, fun h => absurd h a.ne⟩
  · by_cases b : 1 / 2 < y - (⌊y⌋ : ℝ)
    · simp only [a, b, if_true, if_false]
      push_cast
      rw [abs_of_nonpos (by linarith)]
      exact ⟨by linarith, fun h => by linarith⟩
    · have e : y - (⌊y⌋ : ℝ) = 1 / 2 := le_antisymm (not_lt.mp b) (not_lt.mp a)
      by_cases c : Even ⌊y⌋
      · simp only [a, b, c, if_true, if_false]
        exact ⟨by rw [e, abs_of_pos] <;> norm_num, fun _ => trivial⟩
      · simp only [a, b, c, if_false]
        push_cast
        refine ⟨by rw [abs_of_nonpos] <;> linarith, fun _ => ?_⟩
        exact (Int.not_even_iff_odd.mp c).add_one

/-- `k` is the first of the nearest among the levels `0 … 7`. -/
def FirstNearest (d : Fin 8 → ℝ) (k : Fin 8) : Prop := ∀ l, l ≠ k → d k < d l ∨ (d k = d l ∧ k < l)

/-- A position in reach of the levels `0 … 7` rounds to the first nearest of them, but for three midpoints. -/
theorem round_nearest {y : ℝ} (lo : -(1 / 2) ≤ y) (hi : y < 15 / 2) (h12 : |y - 1| ≠ |y - 2|) (h34 : |y - 3| ≠ |y - 4|)
    (h56 : |y - 5| ≠ |y - 6|) :
    ∃ k : Fin 8, Ideal.roundHalfEven y = ((k : ℕ) : ℤ) ∧ FirstNearest (fun l => |y - (l : ℕ)|) k := by
  obtain ⟨hc, he⟩ := round_close y
  generalize Ideal.roundHalfEven y = n at hc he
  obtain ⟨c1, c2⟩ := abs_le.mp hc
  have n0 : 0 ≤ n := by
    by_contra hn
    have hn' : n ≤ -1 := by omega
    have : (n : ℝ) ≤ -1 := by exact_mod_cast hn'
    have e : n = -1 := by
      have : (-2 : ℝ) < n := by linarith
      have : -2 < n := by exact_mod_cast this
      omega
    subst e
    have := he (by rw [abs_of_nonneg] <;> push_cast at * <;> linarith)
    exact absurd this (by decide)
  have n8 : n < 8 := by
    have : (n : ℝ) < 8 := by linarith
    exact_mod_cast this
  lift n to ℕ using n0
  have n8' : n < 8 := by omega
  push_cast at hc he c1 c2
  refine ⟨⟨n, n8'⟩, rfl, fun l hl => ?_⟩
  have hne : (l : ℕ) ≠ n := fun h => hl (Fin.ext h)
  show |y - (n : ℝ)| < |y - (l : ℕ)| ∨ (|y - (n : ℝ)| = |y - (l : ℕ)| ∧ (⟨n, n8'⟩ : Fin 8) < l)
  rcases lt_or_gt_of_ne hne with h | h
  · -- a level below
    have hg : ((l : ℕ) : ℝ) + 1 ≤ n := by exact_mod_cast h
    left
    refine lt_of_le_of_ne (hc.trans ?_) fun heq => ?_
    · rw [abs_of_nonneg] <;> linarith
    · have hup : |y - ((l : ℕ) : ℝ)| = y - (l : ℕ) := abs_of_nonneg (by linarith)
      have hhalf : |y - (n : ℝ)| = 1 / 2 := by
        refine le_antisymm hc ?_
        rw [heq, hup]; linarith
      have hy : y = (l : ℕ) + 1 / 2 := by linarith [hup ▸ heq ▸ hhalf]
      have hn1 : (n : ℝ) = (l : ℕ) + 1 := by
        have : (n : ℝ) ≤ (l : ℕ) + 1 := by rw [hy] at c1; linarith
        linarith
      have hn2 : n = (l : ℕ) + 1 := by exact_mod_cast hn1
      have hev := he hhalf
      have hev' : Even n := by exact_mod_cast hev
      rw [hn2] at hev' heq
      push_cast at heq
      rcases l with ⟨l, hl8⟩
      simp only at hn2 hev' heq
      have : l = 1 ∨ l = 3 ∨ l = 5 := by
        rcases hev' with ⟨q, hq⟩
        omega
      rcases this with e | e | e <;> subst e <;> norm_num at heq
      · exact h12 heq.symm
      · exact h34 heq.symm
      · exact h56 heq.symm
  · -- a level above
    have hg : (n : ℝ) + 1 ≤ (l : ℕ) := by exact_mod_cast h
    rcases (hc.trans (show (1 / 2 : ℝ) ≤ |y - (l : ℕ)| by rw [abs_of_nonpos] <;> linarith)).lt_or_eq with a | a
    · exact Or.inl a
    · exact Or.inr ⟨a, h⟩

/-- An even grid, `b + l · s`, within half a step of which the whole range `[-1, 1]` lies. -/
structure Grid (b s : ℝ) : Prop where
  pos : 0 < s
  low : b - 1 / 2 * s ≤ -1
  high : 1 < b + 15 / 2 * s

/-- The value of level `l`. -/
def level (b s : ℝ) (l : ℕ) : ℝ := b + l * s

/-- The position of a clamped value on an even grid rounds to the first nearest level. -/
theorem nearest_level {b s t : ℝ} (g : Grid b s) (lo : -1 ≤ t) (hi : t ≤ 1)
    (h12 : |t - level b s 1| ≠ |t - level b s 2|) (h34 : |t - level b s 3| ≠ |t - level b s 4|)
    (h56 : |t - level b s 5| ≠ |t - level b s 6|) :
    ∃ k : Fin 8, Ideal.roundHalfEven ((t - b) * (1 / s)) = ((k : ℕ) : ℤ) ∧ FirstNearest (fun l => |t - level b s l|) k := by
  have hs := g.pos
  have hd : ∀ l : ℕ, |t - level b s l| = |(t - b) * (1 / s) - l| * s := by
    intro l
    rw [← abs_of_pos hs, ← abs_mul, abs_of_pos hs, level]
    congr 1
    field_simp
    ring
  have hy : ((t - b) * (1 / s)) * s = t - b := by field_simp
  obtain ⟨k, hk, hn⟩ := round_nearest (y := (t - b) * (1 / s))
    (by by_contra hc; nlinarith [g.low]) (by by_contra hc; nlinarith [g.high])
    (fun e => h12 (by rw [hd, hd]; push_cast; rw [e])) (fun e => h34 (by rw [hd, hd]; push_cast; rw [e]))
    (fun e => h56 (by rw [hd, hd]; push_cast; rw [e]))
  refine ⟨k, hk, fun l hl => ?_⟩
  simp only [hd]
  rcases hn l hl with h | ⟨h, h'⟩
  · exact Or.inl (mul_lt_mul_of_pos_right h hs)
  · exact Or.inr ⟨congrArg (· * s) h, h'⟩

/-! ## The fold of the index of the least value -/

/-- The pair `a` comes before `b`: a smaller value, or the same value at a smaller index. -/
def Before (a b : EReal × BitVec 32) : Prop := a.1 < b.1 ∨ (a.1 = b.1 ∧ a.2.toInt < b.2.toInt)

theorem Before.asymm {a b : EReal × BitVec 32} (h : Before a b) : ¬ Before b a := by
  rintro (k | ⟨k, k'⟩) <;> rcases h with h | ⟨h, h'⟩
  · exact lt_asymm h k
  · exact k.ne' h
  · exact h.ne' k
  · omega

/-- A fold keeping the earlier of two pairs ends at the pair that is before all others. -/
theorem foldl_first (f : EReal × BitVec 32 → EReal × BitVec 32 → EReal × BitVec 32)
    (hl : ∀ a b, Before a b → f a b = a) (hr : ∀ a b, ¬ Before a b → f a b = b) (p : EReal × BitVec 32) :
    ∀ (L : List (EReal × BitVec 32)) (a : EReal × BitVec 32), (a = p ∨ p ∈ L) → (a ≠ p → Before p a) →
      (∀ q ∈ L, q ≠ p → Before p q) → L.foldl f a = p
  | [], a, hp, _, _ => hp.resolve_right (by simp)
  | x :: L, a, hp, ha, hL => by
    have hx := hL x (by simp)
    have hL' : ∀ q ∈ L, q ≠ p → Before p q := fun q hq => hL q (by simp [hq])
    rw [List.foldl_cons]
    have hf : f a x = a ∨ f a x = x := by
      by_cases h : Before a x
      · exact Or.inl (hl _ _ h)
      · exact Or.inr (hr _ _ h)
    refine foldl_first f hl hr p L (f a x) ?_ ?_ hL'
    · by_cases e : a = p
      · left
        by_cases ex : x = p
        · rcases hf with h | h <;> rw [h] <;> assumption
        · rw [hl _ _ (e ▸ hx ex), e]
      · by_cases ex : x = p
        · left
          rw [hr _ _ (ex ▸ (ha e).asymm), ex]
        · right
          rcases hp with h | h
          · exact absurd h e
          · rcases List.mem_cons.mp h with h | h
            · exact absurd h.symm ex
            · exact h
    · rcases hf with h | h <;> rw [h] <;> assumption

/-! ## Distances and codes over the extended reals -/

/-- The host's absolute difference of two real numbers. -/
theorem max_sub_neg (x y : ℝ) : max ((x : EReal) - y) (-((x : EReal) - y)) = ((|x - y| : ℝ) : EReal) := by
  rw [← EReal.coe_sub, ← EReal.coe_neg]
  exact (EReal.coe_strictMono.monotone.map_max (a := x - y) (b := -(x - y))).symm

/-- The hyperbolic tangent is a real number of `[-1, 1]`, the infinities included. -/
theorem tanh_range (x : EReal) : ∃ t : ℝ, Ideal.tanh x = (t : EReal) ∧ -1 ≤ t ∧ t ≤ 1 := by
  induction x with
  | bot => exact ⟨-1, by rw [EReal.coe_neg]; rfl, le_rfl, by norm_num⟩
  | top => exact ⟨1, rfl, by norm_num, le_rfl⟩
  | coe r =>
    refine ⟨Real.tanh r, rfl, ?_, ?_⟩
    · exact (Real.neg_one_lt_tanh r).le
    · exact (Real.tanh_lt_one r).le

/-- A natural number below `2 ^ 31` converts to its word. -/
theorem fptosi_nat (n : ℕ) (hn : n < 2 ^ 31) : Ideal.fptosi 32 (((n : ℝ)) : EReal) = BitVec.ofNat 32 n := by
  have h0 : (0 : ℝ) ≤ n := Nat.cast_nonneg n
  unfold Ideal.fptosi
  rw [Ideal.toIntClamped_coe, if_pos h0, Int.floor_natCast]
  have : max (-((2 ^ (32 - 1) : ℕ) : ℤ)) (min (((2 ^ (32 - 1) : ℕ) : ℤ) - 1) (n : ℤ)) = (n : ℤ) := by
    norm_num at hn ⊢
    omega
  rw [this]
  simp

/-- Five digits, base eight, read as the word the reference packs. -/
theorem pack_word (k : Fin 5 → ℕ) :
    BitVec.ofNat 32 (k 0 + k 1 * 8 + k 2 * 64 + k 3 * 512 + k 4 * 4096)
      = BitVec.ofNat 32 (k 0) + BitVec.ofNat 32 (k 1) * 8#32 + BitVec.ofNat 32 (k 2) * 64#32 + BitVec.ofNat 32 (k 3) * 512#32
        + BitVec.ofNat 32 (k 4) * 4096#32 := by
  simp only [BitVec.ofNat_add, BitVec.ofNat_mul]

end Cert.Proof.Quant

end
-- ==== Proof.Constants.lean ====
/- The float literals the two programs and the precondition write. -/
module

public import proofs.«01_k».proof.Proof.Quant
public import Idealize.ShloMosaic.Lib.Pointwise
public import Idealize.ShloMosaic.Lib.ReduceAll

@[expose] public section

noncomputable section

namespace Cert.Proof.Constants

open Idealize.ShloMosaic

theorem lit_half : Ideal.ofBits .f32 0x3F000000#32 = ((1 / 2 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_seven_half : Ideal.ofBits .f32 0x40F00000#32 = ((15 / 2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_inf : Ideal.ofBits .f32 0x7F800000#32 = ⊤ := by
  simp [Ideal.ofBits, Ideal.ieee]

/-- A small natural number as a word, read as a real. -/
theorem word_real (n : ℕ) (hn : n < 8) :
    FloatOps.sitofp (F := Ideal) .f32 (BitVec.ofNat 32 n) = ((n : ℝ) : EReal) := by
  have e : (BitVec.ofNat 32 n).toInt = (n : ℤ) := by
    rw [BitVec.toInt_eq_toNat_of_lt] <;> simp <;> omega
  show (((BitVec.ofNat 32 n).toInt : ℝ) : EReal) = _
  rw [e, Int.cast_natCast]

/-- The absolute value of a difference of reals. -/
theorem abs_sub (x y : ℝ) : FloatOps.absf (F := Ideal) (φ := .f32) ((x : EReal) - (y : EReal)) = ((|x - y| : ℝ) : EReal) := by
  exact Quant.max_sub_neg x y

/-- Eight to the power `d`, as the kernel computes it. -/
theorem pow_eight (d : ℕ) (hd : d < 8) :
    FloatOps.exp2 (F := Ideal) (φ := .f32) (Ideal.ofBits .f32 0x40400000#32 * FloatOps.sitofp (F := Ideal) .f32 (BitVec.ofNat 32 d))
      = (((8 ^ d : ℕ) : ℝ) : EReal) := by
  rw [lit_three, word_real d hd, ← EReal.coe_mul]
  show Ideal.exp2 _ = _
  rw [Ideal.exp2_coe]
  congr 1
  show (2 : ℝ) ^ ((3 : ℝ) * d) = _
  rw [Real.rpow_mul (by norm_num), Real.rpow_natCast]
  norm_num

/-- A conjunction of one-bit words over a finite family holds only when each one does. -/
theorem fold_and {ι : Type} (s : Finset ι) (f : ι → BitVec 1) (h : s.fold IntOp.andi (1#1) f = 1#1) :
    ∀ i ∈ s, f i = 1#1 := by
  classical
  induction s using Finset.induction_on with
  | empty => intro i hi; simp at hi
  | insert a s ha ih =>
    rw [Finset.fold_insert ha] at h
    obtain ⟨h1, h2⟩ := IntOp.andi_eq_one.1 h
    intro i hi
    rcases Finset.mem_insert.1 hi with rfl | hi
    · exact h1
    · exact ih h2 i hi

/-- The same over a whole finite type. -/
theorem fold_and_univ {ι : Type} {inst : Fintype ι} (f : ι → BitVec 1)
    (h : (@Finset.univ ι inst).fold IntOp.andi (1#1) f = 1#1) (i : ι) : f i = 1#1 :=
  fold_and _ f h i (Finset.mem_univ i)

/-- A decided proposition's bit. -/
theorem of_bit {p : Prop} [Decidable p] (h : BitVec.ofBool (decide p) = 1#1) : p := by
  by_contra hp
  simp [hp] at h

end Cert.Proof.Constants

end
-- ==== Proof.RefNearest.lean ====
/- The reference's nearest level: the first one at the least distance. -/
module

public import proofs.«01_k».proof.Proof.RefRun
public import proofs.«01_k».proof.Proof.Constants

@[expose] public section

set_option maxRecDepth 16384

noncomputable section

namespace Cert.Proof.RefNearest

open Cert.ReferenceIdeal Cert.ReferenceIdeal.Gen Cert.Proof.RefRun Cert.Proof.Quant Cert.Proof.Constants
open Idealize.ShloMosaic

/-- A set bit stays set. -/
theorem one_or : ∀ a : BitVec 1, 1#1 ||| a = 1#1 := by decide

/-- The reducer keeps the pair that comes first, by value and then by position. -/
theorem keep_left (a b : EReal × BitVec 32) (h : Before a b) : reducer_argmin_f32_i32 (F := Ideal) a b = a := by
  obtain ⟨a1, a2⟩ := a
  obtain ⟨b1, b2⟩ := b
  unfold reducer_argmin_f32_i32
  simp only [Ideal.cmpf_def, Ideal.cmp, IntOp.cmpi, BitVec.slt, Scalar.select, IntOp.andi, IntOp.ori]
  rcases h with h | ⟨h, h'⟩
  · simp only at h
    simp [h, one_or]
  · simp only at h h'
    simp [h, h']
theorem keep_right (a b : EReal × BitVec 32) (h : ¬ Before a b) : reducer_argmin_f32_i32 (F := Ideal) a b = b := by
  obtain ⟨a1, a2⟩ := a
  obtain ⟨b1, b2⟩ := b
  unfold reducer_argmin_f32_i32
  simp only [Ideal.cmpf_def, Ideal.cmp, IntOp.cmpi, BitVec.slt, Scalar.select, IntOp.andi, IntOp.ori]
  unfold Before at h
  simp only [not_or, not_and] at h
  obtain ⟨h, h'⟩ := h
  by_cases e : a1 = b1
  · have h' := h' e
    simp [e, h']
  · simp [h, e]

/-- The row and the dimension of an entry of the distances. -/
theorem drop_eq (r : Fin 65536) (d : Fin 5) (l : Fin 8) : reducesTo_S65536x5x8_S65536x5_d2.drop (ix3 r d l) = ix2 r d := by
  funext a; refine Fin.ext ?_
  match a with
  | ⟨0, _⟩ => rfl
  | ⟨1, _⟩ => rfl

/-- The distances a result entry is reduced over are those of its eight levels. -/
theorem fiber_mem (x : S65536x5x8.Idx → EReal) (y : S65536x5x8.Idx → BitVec 32) (r : Fin 65536) (d : Fin 5) (q : EReal × BitVec 32) :
    q ∈ Host.argReduceFiber x y reducesTo_S65536x5x8_S65536x5_d2 (ix2 r d) ↔ ∃ l : Fin 8, q = (x (ix3 r d l), y (ix3 r d l)) := by
  unfold Host.argReduceFiber
  simp only [List.mem_map, List.mem_filter, List.mem_finRange, true_and, decide_eq_true_eq]
  constructor
  · rintro ⟨n, hn, rfl⟩
    generalize S65536x5x8.rowMajor.symm n = i at hn ⊢
    refine ⟨i 2, ?_⟩
    have e : i = ix3 r d (i 2) := by
      funext a; refine Fin.ext ?_
      match a with
      | ⟨0, _⟩ => exact congrArg Fin.val (congrFun hn 0)
      | ⟨1, _⟩ => exact congrArg Fin.val (congrFun hn 1)
      | ⟨2, _⟩ => rfl
    exact congrArg (fun i => (x i, y i)) e
  · rintro ⟨l, rfl⟩
    exact ⟨S65536x5x8.rowMajor (ix3 r d l), by rw [Equiv.symm_apply_apply]; exact ⟨drop_eq r d l, rfl⟩⟩

/-- The level numbers as words are in the levels' order. -/
theorem word_lt : ∀ k l : Fin 8, k < l → (BitVec.ofNat 32 k).toInt < (BitVec.ofNat 32 l).toInt := by decide

/-- A fold of the reducer over the eight levels' pairs, in any order, ends at the first nearest level's. -/
theorem foldl_nearest (L : List (EReal × BitVec 32)) (e : Fin 8 → ℝ) (k : Fin 8) (hk : FirstNearest e k)
    (hL : ∀ q, q ∈ L ↔ ∃ l : Fin 8, q = ((e l : EReal), BitVec.ofNat 32 l)) (z : BitVec 32) :
    L.foldl (reducer_argmin_f32_i32 (F := Ideal)) ((⊤ : EReal), z) = ((e k : EReal), BitVec.ofNat 32 k) := by
  refine foldl_first _ keep_left keep_right _ L _ (Or.inr ((hL _).2 ⟨k, rfl⟩)) (fun _ => Or.inl (EReal.coe_lt_top _)) fun q hq hne => ?_
  obtain ⟨l, rfl⟩ := (hL q).1 hq
  have hl : l ≠ k := fun h => hne (by rw [h])
  rcases hk l hl with h | ⟨h, h'⟩
  · left
    show (e k : EReal) < (e l : EReal)
    exact_mod_cast h
  · right
    exact ⟨congrArg Real.toEReal h, word_lt k l h'⟩

/-- The positions the reduction carries. -/
theorem position (r : Fin 65536) (d : Fin 5) (l : Fin 8) : iotaInDim S65536x5x8 32 2 (ix3 r d l) = BitVec.ofNat 32 l :=
  congrArg (BitVec.ofNat 32) (show ((ix3 r d l : S65536x5x8.Idx) 2 : ℕ) = l from rfl)

/-- The second of a pair that is known. -/
theorem seconds_apply {ι α β : Type} (p : ι → α × β) (j : ι) (a : α) (b : β) (h : p j = (a, b)) : seconds p j = b := by
  unfold seconds
  rw [h]

/-- The reduction as a fold over the entries that are reduced into one. -/
theorem reduce_fold {s t u : Shape} {axes : List (Fin s.rank)} (f : EReal × BitVec 32 → EReal × BitVec 32 → EReal × BitVec 32)
    (x : s.Idx → EReal) (y : s.Idx → BitVec 32) (ix : u.Idx → EReal) (iy : u.Idx → BitVec 32) (h : s.ReducesTo axes t)
    (hu : 0 < u.numel) (j : t.Idx) : Host.argReduce (F := Ideal) (φ := .f32) f x y ix iy h hu j
      = (Host.argReduceFiber x y h j).foldl f (ix (Shape.Idx.first hu), iy (Shape.Idx.first hu)) := by
  rw [Ideal.argReduce_eq_reduce2]
  exact Host.reduce2_eq_foldl_fiber f x y ix iy h hu j

/-- The reference's index is the first nearest level's. -/
theorem nearest_apply (δ : S65536x5x8.Idx → EReal) (r : Fin 65536) (d : Fin 5) (e : Fin 8 → ℝ) (k : Fin 8)
    (he : ∀ l, δ (ix3 r d l) = (e l : EReal)) (hk : FirstNearest e k) :
    nearest (F := Ideal) δ (ix2 r d) = BitVec.ofNat 32 k := by
  have hL := fun q => fiber_mem δ (iotaInDim S65536x5x8 32 2) r d q
  simp only [he, position] at hL
  refine seconds_apply _ _ (e k : EReal) _ ((reduce_fold _ _ _ _ _ _ _ _).trans ?_)
  have hz : constant (F := Ideal) S_ .f32 0x7F800000#32 (Shape.Idx.first h_S_) = (⊤ : EReal) := lit_inf
  rw [hz]
  exact foldl_nearest _ e k hk hL _

end Cert.Proof.RefNearest

end
-- ==== Proof.Pre.lean ====
/- What the precondition says, entry by entry. -/
module

public import proofs.«01_k».proof.Proof.Gen.Pre_even_grid
public import proofs.«01_k».proof.Proof.Constants

@[expose] public section

set_option maxRecDepth 16384

noncomputable section

namespace Cert.Proof.Pre

open Cert.Pre_even_grid
open Idealize.ShloMosaic Cert.Proof.Quant Cert.Proof.Constants

variable [Facts]

/-- The clamped value of a row and a dimension. -/
def clampedAt (x : FVec Ideal S65536x256 .f32) (w : FVec Ideal S5x256 .f32) (b : FVec Ideal S5 .f32)
    (r : Fin 65536) (d : Fin 5) : EReal := Ideal.tanh (∑ k, x (ix2 r k) * w (ix2 d k) + b (ix1 d))

/-- A value halfway between levels `l` and `l + 1`. -/
def Halfway (β σ t : ℝ) (l : ℕ) : Prop := |t - level β σ l| = |t - level β σ (l + 1)|

/-- The start is a real number, and so is the step unless it is infinite: the upper end is reached. -/
theorem start_real (a a' : EReal) (h : 1 < a + ((15 / 2 : ℝ) : EReal) * (a' - a)) :
    ∃ β : ℝ, a = (β : EReal) ∧ (a' - a = ⊤ ∨ ∃ σ : ℝ, a' - a = (σ : EReal)) := by
  induction a with
  | bot => simp at h
  | top =>
    rw [EReal.sub_top, EReal.coe_mul_bot_of_pos (by norm_num)] at h
    simp at h
  | coe β =>
    refine ⟨β, rfl, ?_⟩
    generalize a' - (β : EReal) = s at h ⊢
    induction s with
    | bot =>
      rw [EReal.coe_mul_bot_of_pos (by norm_num)] at h
      simp at h
    | top => exact Or.inl rfl
    | coe σ => exact Or.inr ⟨σ, rfl⟩

/-- With an infinite step, every level but the first is infinitely far. -/
theorem far (t : ℝ) (β : ℝ) (n : ℝ) (hn : 0 < n) :
    FloatOps.absf (F := Ideal) (φ := .f32) ((t : EReal) - ((β : EReal) + (n : EReal) * ⊤)) = ⊤ := by
  rw [EReal.coe_mul_top_of_pos hn, EReal.coe_add_top, EReal.sub_top]
  show max (⊥ : EReal) (-⊥) = ⊤
  simp

/-- The precondition's content: the levels are an even grid reaching past `[-1, 1]`, and no clamped value lies halfway
    between levels 1 and 2, 3 and 4, or 5 and 6. -/
theorem read (x : FVec Ideal S65536x256 .f32) (w : FVec Ideal S5x256 .f32) (b : FVec Ideal S5 .f32)
    (wo : FVec Ideal S256x5 .f32) (bo : FVec Ideal S256 .f32) (g : FVec Ideal S5x8 .f32)
    (h : fn (F := Ideal) x w b wo bo g = fun _ => 1#1) :
    ∃ β σ : ℝ, Grid β σ ∧ (∀ d l, g (ix2 d l) = ((level β σ (l : ℕ) : ℝ) : EReal))
      ∧ ∀ r d (t : ℝ), clampedAt x w b r d = (t : EReal) → ∀ l : Fin 3, ¬ Halfway β σ t (1 + 2 * l) := by
  have h := congrFun h (fun a => a.elim0)
  unfold fn fn_part1 at h
  pointwise at h
  obtain ⟨h, ties⟩ := IntOp.andi_eq_one.1 h
  obtain ⟨h, reach⟩ := IntOp.andi_eq_one.1 h
  obtain ⟨low, high⟩ := IntOp.andi_eq_one.1 reach
  have even := fun d l => of_bit (fold_and_univ _ h (d, l))
  have ties := fun r d l => of_bit (fold_and_univ _ ties (r, d, l))
  replace low := of_bit low
  replace high := of_bit high
  rw [lit_seven_half] at high
  obtain ⟨β, hβ, hσ⟩ := start_real _ _ high
  obtain ⟨σ, hσ⟩ : ∃ σ : ℝ, g (ix2 0 1) - g (ix2 0 0) = (σ : EReal) := by
    refine hσ.resolve_left fun inf => ties 0 0 0 ?_
    obtain ⟨t, ht, -⟩ := tanh_range (∑ k, x (ix2 0 k) * w (ix2 0 k) + b (ix1 0))
    have e : ∀ l : Fin 8, g (ix2 0 l) = (β : EReal) + (((l : ℕ) : ℝ) : EReal) * ⊤ := fun l => by
      have e := even 0 l
      rwa [inf, hβ, word_real _ l.isLt] at e
    show FloatOps.absf (F := Ideal) (φ := .f32) (Ideal.tanh (∑ k, x (ix2 0 k) * w (ix2 0 k) + b (ix1 0)) - g (ix2 0 1))
      = FloatOps.absf (F := Ideal) (φ := .f32) (Ideal.tanh (∑ k, x (ix2 0 k) * w (ix2 0 k) + b (ix1 0)) - g (ix2 0 2))
    rw [ht, e 1, e 2, far t β _ (by norm_num), far t β _ (by norm_num)]
  have levels : ∀ d l, g (ix2 d l) = ((level β σ (l : ℕ) : ℝ) : EReal) := fun d l => by
    have e := even d l
    rw [hσ, hβ, word_real _ l.isLt] at e
    rw [e]
    unfold level
    push_cast
    rfl
  rw [hσ, hβ, lit_half, lit_neg_one] at low
  rw [hσ, hβ] at high
  have low : β - 1 / 2 * σ ≤ -1 := by exact_mod_cast low
  have high : 1 < β + 15 / 2 * σ := by exact_mod_cast high
  refine ⟨β, σ, ⟨by linarith, low, high⟩, levels, fun r d t ht l => ?_⟩
  · have e := ties r d l
    unfold clampedAt at ht
    simp only [ht, levels, abs_sub] at e
    intro hh
    apply e
    unfold Halfway at hh
    have e1 : 2 + 2 * (l : ℕ) = 1 + 2 * l + 1 := by omega
    simp only [e1]
    exact_mod_cast hh

end Cert.Proof.Pre

end
-- ==== Proof.Equal.lean ====
/- The kernel's arrays are the reference's, under the precondition. -/
module

public import proofs.«01_k».proof.Proof.KernelRun
public import proofs.«01_k».proof.Proof.RefLookup
public import proofs.«01_k».proof.Proof.RefNearest
public import proofs.«01_k».proof.Proof.Pre
public import proofs.«01_k».proof.Proof.Gen.Pre_even_grid

@[expose] public section

set_option maxRecDepth 16384

noncomputable section

namespace Cert.Proof.Equal

open Cert.ReferenceIdeal Cert.ReferenceIdeal.Gen
open Cert.Proof.Quant Cert.Proof.Constants Cert.Proof.RefRun Cert.Proof.KernelValue
open Idealize.ShloMosaic

/-- The precondition on the arrays it reads. -/
abbrev Even (x : Arr Ideal S65536x256) (w : Arr Ideal S5x256) (b : Arr Ideal S5) (g : Arr Ideal S5x8) : Prop :=
  ∃ β σ : ℝ, Grid β σ ∧ (∀ d l, g (ix2 d l) = ((level β σ (l : ℕ) : ℝ) : EReal))
    ∧ ∀ r d (t : ℝ), Pre.clampedAt x w b r d = (t : EReal) → ∀ l : Fin 3, ¬ Pre.Halfway β σ t (1 + 2 * l)

/-- The reference's distances at one entry, for a clamped value and levels that are real. -/
theorem dist_apply (x : Arr Ideal S65536x256) (w : Arr Ideal S5x256) (b : Arr Ideal S5) (g : Arr Ideal S5x8)
    (r : Fin 65536) (d : Fin 5) (l : Fin 8) (t v : ℝ) (ht : Pre.clampedAt x w b r d = (t : EReal)) (hv : g (ix2 d l) = (v : EReal)) :
    RefRun.dist (RefRun.clamped x w b) g (ix3 r d l) = ((|t - v| : ℝ) : EReal) := by
  unfold RefRun.dist RefRun.clamped
  pointwise
  unfold Pre.clampedAt at ht
  rw [ht, hv]
  exact abs_sub t v

/-- The kernel's rounding of a real clamped value on a real grid. -/
theorem rounded_real (t β σ : ℝ) (pos : 0 < σ) (a a' : EReal) (h : a = ((level β σ 0 : ℝ) : EReal)) (h' : a' = ((level β σ 1 : ℝ) : EReal))
    (k : ℕ) (hk : Ideal.roundHalfEven ((t - β) * (1 / σ)) = (k : ℤ)) :
    roundedAt (t : EReal) a a' = ((k : ℝ) : EReal) ∧ levelAt (t : EReal) a a' = ((level β σ k : ℝ) : EReal) := by
  have e0 : level β σ 0 = β := by unfold level; push_cast; ring
  have e1 : level β σ 1 - level β σ 0 = σ := by unfold level; push_cast; ring
  have hs : a' - a = (σ : EReal) := by rw [h, h', ← EReal.coe_sub, e1]
  have hr : roundedAt (t : EReal) a a' = ((k : ℝ) : EReal) := by
    unfold roundedAt
    rw [hs, h, e0, Ideal.div_coe pos.ne', one_mul, ← EReal.coe_sub, ← EReal.coe_mul, Ideal.liftRound_coe, hk]
    simp
  refine ⟨hr, ?_⟩
  unfold levelAt
  rw [hr, hs, h, e0, ← EReal.coe_mul, ← EReal.coe_add]
  unfold level
  congr 1
  ring

/-- One row and dimension: the kernel's rounded position, its level, and the reference's index, all by one level number. -/
theorem digit (x : Arr Ideal S65536x256) (w : Arr Ideal S5x256) (b : Arr Ideal S5) (g : Arr Ideal S5x8) (pre : Even x w b g)
    (r : Fin 65536) (d : Fin 5) : ∃ k : Fin 8,
      roundedAt (Pre.clampedAt x w b r d) (g (ix2 0 0)) (g (ix2 0 1)) = (((k : ℕ) : ℝ) : EReal)
      ∧ levelAt (Pre.clampedAt x w b r d) (g (ix2 0 0)) (g (ix2 0 1)) = g (ix2 d k)
      ∧ index x w b g (ix2 r d) = BitVec.ofNat 32 k := by
  obtain ⟨β, σ, grid, levels, ties⟩ := pre
  obtain ⟨t, ht, lo, hi⟩ := tanh_range (∑ k, x (ix2 r k) * w (ix2 d k) + b (ix1 d))
  have hc : Pre.clampedAt x w b r d = (t : EReal) := ht
  have ties := ties r d t hc
  obtain ⟨k, hk, first⟩ := nearest_level grid lo hi (ties 0) (ties 1) (ties 2)
  obtain ⟨h1, h2⟩ := rounded_real t β σ grid.pos _ _ (levels 0 0) (levels 0 1) k hk
  rw [hc]
  refine ⟨k, h1, h2.trans (levels d k).symm, ?_⟩
  exact RefNearest.nearest_apply _ r d (fun l => |t - level β σ l|) k
    (fun l => dist_apply x w b g r d l t _ hc (levels d l)) first

/-- The output projection at one entry. -/
theorem project_apply (q : Arr Ideal S65536x5) (wo : Arr Ideal S256x5) (bo : Arr Ideal S256) (r : Fin 65536) (j : Fin 256) :
    project q wo bo (ix2 r j) = ∑ d, q (ix2 r d) * wo (ix2 j d) + bo (ix1 j) := by
  unfold project
  pointwise

/-- The scaled digits of a row, added up as reals. -/
theorem sum_digits (k : Fin 5 → ℕ) :
    ∑ d, (((k d : ℕ) : ℝ) : EReal) * scaleAt d = (((k 0 + k 1 * 8 + k 2 * 64 + k 3 * 512 + k 4 * 4096 : ℕ) : ℝ) : EReal) := by
  have e : ∀ d : Fin 5, (((k d : ℕ) : ℝ) : EReal) * scaleAt d = (((k d * 8 ^ (d : ℕ) : ℕ) : ℝ) : EReal) := fun d => by
    unfold scaleAt
    rw [pow_eight d (lt_trans d.isLt (by norm_num)), ← EReal.coe_mul, ← Nat.cast_mul]
  simp only [e, Fin.sum_univ_five, ← EReal.coe_add, ← Nat.cast_add]
  norm_num

variable (m : (ℓ : Loc Cert.KernelIdeal.nD Cert.KernelIdeal.τ Cert.KernelIdeal.sig) → Buf (Elt Ideal) ℓ) (c : Dev Cert.KernelIdeal.nD)

/-- The kernel's arguments. -/
abbrev argX : Arr Ideal S65536x256 := m ((c.tc : Thread Cert.KernelIdeal.nD Cert.KernelIdeal.τ).loc Cert.KernelIdeal.main_arg0)
abbrev argWIn : Arr Ideal S5x256 := m ((c.tc : Thread Cert.KernelIdeal.nD Cert.KernelIdeal.τ).loc Cert.KernelIdeal.main_arg1)
abbrev argBIn : Arr Ideal S5 := m ((c.tc : Thread Cert.KernelIdeal.nD Cert.KernelIdeal.τ).loc Cert.KernelIdeal.main_arg2)
abbrev argWOut : Arr Ideal S256x5 := m ((c.tc : Thread Cert.KernelIdeal.nD Cert.KernelIdeal.τ).loc Cert.KernelIdeal.main_arg3)
abbrev argBOut : Arr Ideal S256 := m ((c.tc : Thread Cert.KernelIdeal.nD Cert.KernelIdeal.τ).loc Cert.KernelIdeal.main_arg4)
abbrev argLevels : Arr Ideal S5x8 := m ((c.tc : Thread Cert.KernelIdeal.nD Cert.KernelIdeal.τ).loc Cert.KernelIdeal.main_arg5)

variable (pre : Even (argX m c) (argWIn m c) (argBIn m c) (argLevels m c))

include pre

/-- The projected array is the reference's. -/
theorem out_eq : outArr m c = project (lookup (index (argX m c) (argWIn m c) (argBIn m c) (argLevels m c)) (argLevels m c))
    (argWOut m c) (argBOut m c) := by
  funext i
  idx_vars i
  refine Eq.trans (congrArg (· + _) (Finset.sum_congr rfl fun d _ => ?_)) (project_apply _ _ _ i0 i1).symm
  obtain ⟨k, -, hl, hi⟩ := digit _ _ _ _ pre i0 d
  rw [RefLookup.lookup_apply _ _ _ _ k hi, ← hl]
  rfl

/-- The code of a row is the reference's. -/
theorem code_eq (r : Fin 65536) : codeAt m c r = pack (index (argX m c) (argWIn m c) (argBIn m c) (argLevels m c)) (ix1 r) := by
  choose k hr hl hi using digit _ _ _ _ pre r
  refine Eq.trans ?_ ((pack_word fun d => (k d : ℕ)).trans (RefLookup.pack_apply _ r (fun d => k d) hi).symm)
  unfold codeAt
  have e : ∀ d, roundedAt (KernelValue.clamped m c r d) (base m c) (next m c) = (((k d : ℕ) : ℝ) : EReal) := hr
  simp only [e]
  rw [sum_digits (fun d => k d), fptosi_nat]
  have h0 := (k 0).isLt
  have h1 := (k 1).isLt
  have h2 := (k 2).isLt
  have h3 := (k 3).isLt
  have h4 := (k 4).isLt
  omega

/-- The flat code array is the reference's. -/
theorem codes_eq : shapeCast Cert.KernelIdeal.S65536 (codeArr m c) Cert.KernelIdeal.Gen.shapeCasts_S65536x1_S65536
    = pack (index (argX m c) (argWIn m c) (argBIn m c) (argLevels m c)) := by
  funext i
  idx_vars i
  rw [← code_eq m c pre]
  pointwise [codeArr]

end Cert.Proof.Equal

end
-- ==== Proof.Agree.lean ====
/- The value claim: from memories agreeing on the arguments, both programs end with the same four arrays. -/
module

public import proofs.«01_k».proof.Defs
public import proofs.«01_k».proof.Proof.Equal

@[expose] public section

set_option maxRecDepth 16384

noncomputable section

namespace Cert.Proof.Agree

open Cert.ReferenceIdeal Cert.ReferenceIdeal.Gen
open Cert.Proof.RefRun Cert.Proof.KernelValue Cert.Proof.Equal
open Idealize.ShloMosaic Idealize.ShloMosaic.TcCoe Idealize.ShloMosaic.StableHlo Idealize.SL.Sem

/-- The reference's four results, from its arguments. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56)
          = project (F := Ideal) (lookup (index (F := Ideal) (m ((c.tc : Thread nD τ).loc main_arg0)) (m ((c.tc : Thread nD τ).loc main_arg1))
              (m ((c.tc : Thread nD τ).loc main_arg2)) (m ((c.tc : Thread nD τ).loc main_arg5))) (m ((c.tc : Thread nD τ).loc main_arg5)))
            (m ((c.tc : Thread nD τ).loc main_arg3)) (m ((c.tc : Thread nD τ).loc main_arg4))
      ∧ r.2.mem ((c.tc : Thread nD τ).loc main_v51)
          = pack (index (F := Ideal) (m ((c.tc : Thread nD τ).loc main_arg0)) (m ((c.tc : Thread nD τ).loc main_arg1))
              (m ((c.tc : Thread nD τ).loc main_arg2)) (m ((c.tc : Thread nD τ).loc main_arg5)))
      ∧ r.2.mem ((c.tc : Thread nD τ).loc main_cst) = constant (F := Ideal) S_ .f32 0x00000000#32
      ∧ r.2.mem ((c.tc : Thread nD τ).loc main_cst_7) = constant (F := Ideal) S_ .f32 0x00000000#32 :=
  (θ_run defs _ _).mono (fun _ h c => ⟨(h c _).trans (final_out _), (h c _).trans (final_codes _), (h c _).trans (final_loss0 _),
    (h c _).trans (final_loss1 _)⟩) (RefRun.run m ρ)

/-- The value claim. -/
theorem agree : Cert.algebraic_KernelIdeal_ReferenceIdeal_pre_even_grid (hKernelIdeal := Cert.KernelIdeal.Gen.facts)
    (hReferenceIdeal := Cert.ReferenceIdeal.Gen.facts) (hPre_even_grid := Cert.Pre_even_grid.Gen.facts) := by
  intro m ρ m' ρ' pre args
  refine ⟨fun c => outArr m c, fun c => shapeCast Cert.KernelIdeal.S65536 (codeArr m c) Cert.KernelIdeal.Gen.shapeCasts_S65536x1_S65536,
    fun _ => constant (F := Ideal) S_ .f32 0x00000000#32, fun _ => constant (F := Ideal) S_ .f32 0x00000000#32,
    KernelRun.run m ρ, ?_⟩
  refine (θ_run defs _ _).mono (fun r h c => ?_) (θ_run_and (results m' ρ') (RefRun.unchanged m' ρ'))
  obtain ⟨h, hu⟩ := h
  obtain ⟨h0, h1, h2, h3⟩ := h c
  obtain ⟨a0, a1, a2, a3, a4, a5⟩ := args c
  rw [a0, a1, a2, a3, a4, a5] at h0
  rw [a0, a1, a2, a5] at h1
  have even := Pre.read _ _ _ _ _ _ (pre c)
  exact ⟨h0.trans (out_eq m c even).symm, h1.trans (codes_eq m c even).symm, h2, h3, hu c⟩

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_even_grid
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_even_grid.Gen.facts,
  fun m ρ _ => Cert.Kernel.Gen.frame m ρ, fun m ρ _ => Cert.KernelIdeal.Gen.frame m ρ, fun m ρ _ => Cert.KernelIdeal.Gen.frame m ρ,
  fun m ρ _ => RefRun.frame m ρ, fun m ρ _ => RefRun.frame m ρ, trivial, Agree.agree⟩

end Cert.Proof

end
